-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v61)) (v1 : (c : Dev Cert.KernelIdeal.nD) → Buf (Elt Ideal) ((c.tc : Thread Cert.KernelIdeal.nD Cert.KernelIdeal.τ).loc Cert.KernelIdeal.main_v60)) (v2 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_v63) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v80) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x32 : Shape := ⟨3, ![16, 1024, 32]⟩
abbrev S2x8192x32 : Shape := ⟨3, ![2, 8192, 32]⟩
abbrev S_ : Shape := ⟨0, ![]⟩

class Facts : Prop where
  bcast_S_S16x1024x32 : S_.BroadcastsInDim S16x1024x32 (![] : Fin 0 → Fin S16x1024x32.rank)
  reducesTo_S16x1024x32_S_d0_1_2 : S16x1024x32.ReducesTo [0, 1, 2] S_
  h_S_ : 0 < S_.numel
  bcast_S_S2x8192x32 : S_.BroadcastsInDim S2x8192x32 (![] : Fin 0 → Fin S2x8192x32.rank)
  reducesTo_S2x8192x32_S_d0_1_2 : S2x8192x32.ReducesTo [0, 1, 2] S_

variable [Facts]

def fn {F : FTy → Type} [FloatOps F] (main_arg0 : FVec F S16x1024x32 .f32) (main_arg1 : FVec F S2x8192x32 .f32) : IVec S_ 1 :=
  let main_v0 : FVec F S16x1024x32 .f32 := Host.absf main_arg0
  let main_cst : FVec F S_ .f32 := constant S_ .f32 0x7F800000#32
  let main_v1 : FVec F S16x1024x32 .f32 := broadcastInDim S16x1024x32 ![] bcast_S_S16x1024x32 main_cst
  let main_v2 : IVec S16x1024x32 1 := cmpf .olt main_v0 main_v1
  let main_c : IVec S_ 1 := constantI S_ 1 1#1
  let main_v3 : IVec S_ 1 := (fun x v => Host.reduce IntOp.andi x v reducesTo_S16x1024x32_S_d0_1_2 h_S_) main_v2 main_c
  let main_v4 : FVec F S2x8192x32 .f32 := Host.absf main_arg1
  let main_cst_0 : FVec F S_ .f32 := constant S_ .f32 0x7F800000#32
  let main_v5 : FVec F S2x8192x32 .f32 := broadcastInDim S2x8192x32 ![] bcast_S_S2x8192x32 main_cst_0
  let main_v6 : IVec S2x8192x32 1 := cmpf .olt main_v4 main_v5
  let main_c_1 : IVec S_ 1 := constantI S_ 1 1#1
  let main_v7 : IVec S_ 1 := (fun x v => Host.reduce IntOp.andi x v reducesTo_S2x8192x32_S_d0_1_2 h_S_) main_v6 main_c_1
  let main_v8 : IVec S_ 1 := andi main_v3 main_v7
  main_v8
-- ==== Kernel.lean ====
abbrev S16x1024x32 : Shape := ⟨3, ![16, 1024, 32]⟩
abbrev S2x8192x32 : Shape := ⟨3, ![2, 8192, 32]⟩
abbrev S16384x32 : Shape := ⟨2, ![16384, 32]⟩
abbrev S_ : Shape := ⟨0, ![]⟩
abbrev S2x8192 : Shape := ⟨2, ![2, 8192]⟩
abbrev S2x8192x1 : Shape := ⟨3, ![2, 8192, 1]⟩
abbrev S2x8192x34 : Shape := ⟨3, ![2, 8192, 34]⟩
abbrev S64x128x32 : Shape := ⟨3, ![64, 128, 32]⟩
abbrev S1x8192x32 : Shape := ⟨3, ![1, 8192, 32]⟩
abbrev S8192x32 : Shape := ⟨2, ![8192, 32]⟩
abbrev S64x1x128x32 : Shape := ⟨4, ![64, 1, 128, 32]⟩
abbrev S64x2x128x32 : Shape := ⟨4, ![64, 2, 128, 32]⟩
abbrev S1x8192x1 : Shape := ⟨3, ![1, 8192, 1]⟩
abbrev S8192x1 : Shape := ⟨2, ![8192, 1]⟩
abbrev S64x128 : Shape := ⟨2, ![64, 128]⟩
abbrev S64x1x128 : Shape := ⟨3, ![64, 1, 128]⟩
abbrev S64x2x128 : Shape := ⟨3, ![64, 2, 128]⟩
abbrev S16384x1 : Shape := ⟨2, ![16384, 1]⟩
abbrev S16384 : Shape := ⟨1, ![16384]⟩
abbrev S16384x70 : Shape := ⟨2, ![16384, 70]⟩
abbrev S70x16384 : Shape := ⟨2, ![70, 16384]⟩
abbrev S16384x128x128 : Shape := ⟨3, ![16384, 128, 128]⟩
abbrev S128x1x1 : Shape := ⟨3, ![128, 1, 1]⟩
abbrev S128x32 : Shape := ⟨2, ![128, 32]⟩
abbrev S128x128x128 : Shape := ⟨3, ![128, 128, 128]⟩
abbrev S1x1x1 : Shape := ⟨3, ![1, 1, 1]⟩
abbrev S1x8192x34 : Shape := ⟨3, ![1, 8192, 34]⟩
abbrev S8192x34 : Shape := ⟨2, ![8192, 34]⟩
abbrev S128x2 : Shape := ⟨2, ![128, 2]⟩
abbrev S128x34 : Shape := ⟨2, ![128, 34]⟩
abbrev S128x8192 : Shape := ⟨2, ![128, 8192]⟩
abbrev S128 : Shape := ⟨1, ![128]⟩
abbrev S128x1 : Shape := ⟨2, ![128, 1]⟩
abbrev S1x128x32 : Shape := ⟨3, ![1, 128, 32]⟩
abbrev S1 : Shape := ⟨1, ![1]⟩
abbrev S128x70 : Shape := ⟨2, ![128, 70]⟩
abbrev S128x16384 : Shape := ⟨2, ![128, 16384]⟩
abbrev S16x1024x64x2x128 : Shape := ⟨5, ![16, 1024, 64, 2, 128]⟩
abbrev S16x1024x64x128x2 : Shape := ⟨5, ![16, 1024, 64, 128, 2]⟩
abbrev S16x1024x8192x2 : Shape := ⟨4, ![16, 1024, 8192, 2]⟩

abbrev nBuf : Space → Nat
  | .hbm => 86
  | .vmem => 10
  | .smem => 0
  | _ => 0

abbrev bufTy : (tb : Table) → Fin (tcTables nBuf tb) → BufTy
  | .hbm, ⟨0, _⟩ => ⟨S16x1024x32, .f32⟩
  | .hbm, ⟨1, _⟩ => ⟨S2x8192x32, .f32⟩
  | .hbm, ⟨2, _⟩ => ⟨S16384x32, .f32⟩
  | .hbm, ⟨3, _⟩ => ⟨S2x8192x32, .f32⟩
  | .hbm, ⟨4, _⟩ => ⟨S_, .f32⟩
  | .hbm, ⟨5, _⟩ => ⟨S2x8192, .f32⟩
  | .hbm, ⟨6, _⟩ => ⟨S2x8192x1, .f32⟩
  | .hbm, ⟨7, _⟩ => ⟨S2x8192x1, .bf16⟩
  | .hbm, ⟨8, _⟩ => ⟨S2x8192x1, .f32⟩
  | .hbm, ⟨9, _⟩ => ⟨S2x8192x1, .f32⟩
  | .hbm, ⟨10, _⟩ => ⟨S2x8192x34, .f32⟩
  | .hbm, ⟨11, _⟩ => ⟨S_, .f32⟩
  | .hbm, ⟨12, _⟩ => ⟨S64x128x32, .f32⟩
  | .hbm, ⟨13, _⟩ => ⟨S1x8192x32, .f32⟩
  | .hbm, ⟨14, _⟩ => ⟨S8192x32, .f32⟩
  | .hbm, ⟨15, _⟩ => ⟨S64x128x32, .f32⟩
  | .hbm, ⟨16, _⟩ => ⟨S1x8192x32, .f32⟩
  | .hbm, ⟨17, _⟩ => ⟨S8192x32, .f32⟩
  | .hbm, ⟨18, _⟩ => ⟨S64x128x32, .f32⟩
  | .hbm, ⟨19, _⟩ => ⟨S64x1x128x32, .f32⟩
  | .hbm, ⟨20, _⟩ => ⟨S64x1x128x32, .f32⟩
  | .hbm, ⟨21, _⟩ => ⟨S64x2x128x32, .f32⟩
  | .hbm, ⟨22, _⟩ => ⟨S16384x32, .f32⟩
  | .hbm, ⟨23, _⟩ => ⟨S_, .f32⟩
  | .hbm, ⟨24, _⟩ => ⟨S16384x32, .f32⟩
  | .hbm, ⟨25, _⟩ => ⟨S16384x32, .f32⟩
  | .hbm, ⟨26, _⟩ => ⟨S64x1x128x32, .f32⟩
  | .hbm, ⟨27, _⟩ => ⟨S64x1x128x32, .f32⟩
  | .hbm, ⟨28, _⟩ => ⟨S64x2x128x32, .f32⟩
  | .hbm, ⟨29, _⟩ => ⟨S16384x32, .f32⟩
  | .hbm, ⟨30, _⟩ => ⟨S_, .f32⟩
  | .hbm, ⟨31, _⟩ => ⟨S16384x32, .f32⟩
  | .hbm, ⟨32, _⟩ => ⟨S16384x32, .f32⟩
  | .hbm, ⟨33, _⟩ => ⟨S1x8192x1, .f32⟩
  | .hbm, ⟨34, _⟩ => ⟨S8192x1, .f32⟩
  | .hbm, ⟨35, _⟩ => ⟨S64x128, .f32⟩
  | .hbm, ⟨36, _⟩ => ⟨S1x8192x1, .f32⟩
  | .hbm, ⟨37, _⟩ => ⟨S8192x1, .f32⟩
  | .hbm, ⟨38, _⟩ => ⟨S64x128, .f32⟩
  | .hbm, ⟨39, _⟩ => ⟨S64x1x128, .f32⟩
  | .hbm, ⟨40, _⟩ => ⟨S64x1x128, .f32⟩
  | .hbm, ⟨41, _⟩ => ⟨S64x2x128, .f32⟩
  | .hbm, ⟨42, _⟩ => ⟨S16384x1, .f32⟩
  | .hbm, ⟨43, _⟩ => ⟨S16384x1, .bf16⟩
  | .hbm, ⟨44, _⟩ => ⟨S16384x1, .f32⟩
  | .hbm, ⟨45, _⟩ => ⟨S16384, .i32⟩
  | .hbm, ⟨46, _⟩ => ⟨S16384x1, .i32⟩
  | .hbm, ⟨47, _⟩ => ⟨S_, .i32⟩
  | .hbm, ⟨48, _⟩ => ⟨S16384x1, .i32⟩
  | .hbm, ⟨49, _⟩ => ⟨S16384x1, .i32⟩
  | .hbm, ⟨50, _⟩ => ⟨S_, .i32⟩
  | .hbm, ⟨51, _⟩ => ⟨S16384x1, .i32⟩
  | .hbm, ⟨52, _⟩ => ⟨S16384x1, .i32⟩
  | .hbm, ⟨53, _⟩ => ⟨S_, .i32⟩
  | .hbm, ⟨54, _⟩ => ⟨S16384x1, .i32⟩
  | .hbm, ⟨55, _⟩ => ⟨S16384x1, .i1⟩
  | .hbm, ⟨56, _⟩ => ⟨S_, .f32⟩
  | .hbm, ⟨57, _⟩ => ⟨S_, .f32⟩
  | .hbm, ⟨58, _⟩ => ⟨S16384x1, .f32⟩
  | .hbm, ⟨59, _⟩ => ⟨S16384x1, .f32⟩
  | .hbm, ⟨60, _⟩ => ⟨S16384x1, .f32⟩
  | .hbm, ⟨61, _⟩ => ⟨S16384x1, .f32⟩
  | .hbm, ⟨62, _⟩ => ⟨S_, .i32⟩
  | .hbm, ⟨63, _⟩ => ⟨S16384x1, .i32⟩
  | .hbm, ⟨64, _⟩ => ⟨S16384x1, .i1⟩
  | .hbm, ⟨65, _⟩ => ⟨S_, .f32⟩
  | .hbm, ⟨66, _⟩ => ⟨S_, .f32⟩
  | .hbm, ⟨67, _⟩ => ⟨S16384x1, .f32⟩
  | .hbm, ⟨68, _⟩ => ⟨S16384x1, .f32⟩
  | .hbm, ⟨69, _⟩ => ⟨S16384x1, .f32⟩
  | .hbm, ⟨70, _⟩ => ⟨S16384x1, .f32⟩
  | .hbm, ⟨71, _⟩ => ⟨S16384x1, .f32⟩
  | .hbm, ⟨72, _⟩ => ⟨S16384x1, .f32⟩
  | .hbm, ⟨73, _⟩ => ⟨S16384x70, .f32⟩
  | .hbm, ⟨74, _⟩ => ⟨S70x16384, .f32⟩
  | .hbm, ⟨75, _⟩ => ⟨S16384x128x128, .f32⟩
  | .hbm, ⟨76, _⟩ => ⟨S16384x32, .f32⟩
  | .hbm, ⟨77, _⟩ => ⟨S128x1x1, .f32⟩
  | .hbm, ⟨78, _⟩ => ⟨S16x1024x64x2x128, .f32⟩
  | .hbm, ⟨79, _⟩ => ⟨S16x1024x64x128x2, .f32⟩
  | .hbm, ⟨80, _⟩ => ⟨S16x1024x8192x2, .f32⟩
  | .hbm, ⟨81, _⟩ => ⟨S16x1024x32, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .local _ .vmem, ⟨0, _⟩ => ⟨S128x32, .f32⟩
  | .local _ .vmem, ⟨1, _⟩ => ⟨S128x32, .f32⟩
  | .local _ .vmem, ⟨2, _⟩ => ⟨S2x8192x34, .f32⟩
  | .local _ .vmem, ⟨3, _⟩ => ⟨S70x16384, .f32⟩
  | .local _ .vmem, ⟨4, _⟩ => ⟨S128x128x128, .f32⟩
  | .local _ .vmem, ⟨5, _⟩ => ⟨S128x128x128, .f32⟩
  | .local _ .vmem, ⟨6, _⟩ => ⟨S128x32, .f32⟩
  | .local _ .vmem, ⟨7, _⟩ => ⟨S128x32, .f32⟩
  | .local _ .vmem, ⟨8, _⟩ => ⟨S1x1x1, .f32⟩
  | .local _ .vmem, ⟨9, _⟩ => ⟨S1x1x1, .f32⟩
  | _, _ => ⟨S16x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_1 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_c : Ref sig .tc := ⟨.hbm, 47, rfl⟩
abbrev main_v41 : Ref sig .tc := ⟨.hbm, 48, rfl⟩
abbrev main_v42 : Ref sig .tc := ⟨.hbm, 49, rfl⟩
abbrev main_c_3 : Ref sig .tc := ⟨.hbm, 50, rfl⟩
abbrev main_v43 : Ref sig .tc := ⟨.hbm, 51, rfl⟩
abbrev main_v44 : Ref sig .tc := ⟨.hbm, 52, rfl⟩
abbrev main_c_4 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_cst_6 : Ref sig .tc := ⟨.hbm, 57, rfl⟩
abbrev main_call0_v0 : Ref sig .tc := ⟨.hbm, 58, rfl⟩
abbrev main_call0_v1 : Ref sig .tc := ⟨.hbm, 59, rfl⟩
abbrev main_v47 : Ref sig .tc := ⟨.hbm, 60, rfl⟩
abbrev main_v48 : Ref sig .tc := ⟨.hbm, 61, rfl⟩
abbrev main_c_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_cst_9 : Ref sig .tc := ⟨.hbm, 66, rfl⟩
abbrev main_call1_v0 : Ref sig .tc := ⟨.hbm, 67, rfl⟩
abbrev main_call1_v1 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57_0 : Ref sig .tc := ⟨.hbm, 75, rfl⟩
abbrev main_v57_1 : Ref sig .tc := ⟨.hbm, 76, rfl⟩
abbrev main_v57_2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_10 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x8192x34 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S70x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S16x1024x32 : Shape := ⟨3, ![16, 1024, 32]⟩
abbrev S2x8192x32 : Shape := ⟨3, ![2, 8192, 32]⟩
abbrev S_ : Shape := ⟨0, ![]⟩
abbrev S1x8192x32 : Shape := ⟨3, ![1, 8192, 32]⟩
abbrev S8192x32 : Shape := ⟨2, ![8192, 32]⟩
abbrev S16x1024 : Shape := ⟨2, ![16, 1024]⟩
abbrev S16x1024x1 : Shape := ⟨3, ![16, 1024, 1]⟩
abbrev S16x1024x8192 : Shape := ⟨3, ![16, 1024, 8192]⟩
abbrev S8192 : Shape := ⟨1, ![8192]⟩
abbrev S1x1x8192 : Shape := ⟨3, ![1, 1, 8192]⟩
abbrev S16x1024x8192x1 : Shape := ⟨4, ![16, 1024, 8192, 1]⟩
abbrev S16x1024x8192x2 : Shape := ⟨4, ![16, 1024, 8192, 2]⟩

abbrev nBuf : Space → Nat
  | .hbm => 112
  | .vmem => 0
  | .smem => 0
  | _ => 0

abbrev bufTy : (tb : Table) → Fin (tcTables nBuf tb) → BufTy
  | .hbm, ⟨0, _⟩ => ⟨S16x1024x32, .f32⟩
  | .hbm, ⟨1, _⟩ => ⟨S2x8192x32, .f32⟩
  | .hbm, ⟨2, _⟩ => ⟨S_, .f32⟩
  | .hbm, ⟨3, _⟩ => ⟨S16x1024x32, .f32⟩
  | .hbm, ⟨4, _⟩ => ⟨S1x8192x32, .f32⟩
  | .hbm, ⟨5, _⟩ => ⟨S8192x32, .f32⟩
  | .hbm, ⟨6, _⟩ => ⟨S16x1024x32, .f32⟩
  | .hbm, ⟨7, _⟩ => ⟨S_, .f32⟩
  | .hbm, ⟨8, _⟩ => ⟨S16x1024, .f32⟩
  | .hbm, ⟨9, _⟩ => ⟨S16x1024x1, .f32⟩
  | .hbm, ⟨10, _⟩ => ⟨S16x1024x8192, .f32⟩
  | .hbm, ⟨11, _⟩ => ⟨S_, .f32⟩
  | .hbm, ⟨12, _⟩ => ⟨S16x1024x8192, .f32⟩
  | .hbm, ⟨13, _⟩ => ⟨S16x1024x8192, .f32⟩
  | .hbm, ⟨14, _⟩ => ⟨S16x1024x8192, .f32⟩
  | .hbm, ⟨15, _⟩ => ⟨S16x1024x8192, .f32⟩
  | .hbm, ⟨16, _⟩ => ⟨S8192x32, .f32⟩
  | .hbm, ⟨17, _⟩ => ⟨S_, .f32⟩
  | .hbm, ⟨18, _⟩ => ⟨S8192, .f32⟩
  | .hbm, ⟨19, _⟩ => ⟨S1x1x8192, .f32⟩
  | .hbm, ⟨20, _⟩ => ⟨S16x1024x8192, .f32⟩
  | .hbm, ⟨21, _⟩ => ⟨S16x1024x8192, .f32⟩
  | .hbm, ⟨22, _⟩ => ⟨S16x1024x8192, .f32⟩
  | .hbm, ⟨23, _⟩ => ⟨S_, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024x1, .f32⟩
  | .hbm, ⟨29, _⟩ => ⟨S16x1024x8192, .f32⟩
  | .hbm, ⟨30, _⟩ => ⟨S16x1024x8192, .f32⟩
  | .hbm, ⟨31, _⟩ => ⟨S16x1024x8192, .f32⟩
  | .hbm, ⟨32, _⟩ => ⟨S_, .f32⟩
  | .hbm, ⟨33, _⟩ => ⟨S16x1024, .f32⟩
  | .hbm, ⟨34, _⟩ => ⟨S16x1024x1, .f32⟩
  | .hbm, ⟨35, _⟩ => ⟨S16x1024x8192, .f32⟩
  | .hbm, ⟨36, _⟩ => ⟨S16x1024x8192, .f32⟩
  | .hbm, ⟨37, _⟩ => ⟨S16x1024x32, .f32⟩
  | .hbm, ⟨38, _⟩ => ⟨S16x1024x32, .f32⟩
  | .hbm, ⟨39, _⟩ => ⟨S16x1024x32, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16x1024x32, .f32⟩
  | .hbm, ⟨45, _⟩ => ⟨S16x1024x32, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S16x1024x32, .f32⟩
  | .hbm, ⟨56, _⟩ => ⟨S16x1024x32, .f32⟩
  | .hbm, ⟨57, _⟩ => ⟨S1x8192x32, .f32⟩
  | .hbm, ⟨58, _⟩ => ⟨S8192x32, .f32⟩
  | .hbm, ⟨59, _⟩ => ⟨S16x1024x32, .f32⟩
  | .hbm, ⟨60, _⟩ => ⟨S_, .f32⟩
  | .hbm, ⟨61, _⟩ => ⟨S16x1024, .f32⟩
  | .hbm, ⟨62, _⟩ => ⟨S16x1024x1, .f32⟩
  | .hbm, ⟨63, _⟩ => ⟨S16x1024x8192, .f32⟩
  | .hbm, ⟨64, _⟩ => ⟨S_, .f32⟩
  | .hbm, ⟨65, _⟩ => ⟨S16x1024x8192, .f32⟩
  | .hbm, ⟨66, _⟩ => ⟨S16x1024x8192, .f32⟩
  | .hbm, ⟨67, _⟩ => ⟨S16x1024x8192, .f32⟩
  | .hbm, ⟨68, _⟩ => ⟨S16x1024x8192, .f32⟩
  | .hbm, ⟨69, _⟩ => ⟨S8192x32, .f32⟩
  | .hbm, ⟨70, _⟩ => ⟨S_, .f32⟩
  | .hbm, ⟨71, _⟩ => ⟨S8192, .f32⟩
  | .hbm, ⟨72, _⟩ => ⟨S1x1x8192, .f32⟩
  | .hbm, ⟨73, _⟩ => ⟨S16x1024x8192, .f32⟩
  | .hbm, ⟨74, _⟩ => ⟨S16x1024x8192, .f32⟩
  | .hbm, ⟨75, _⟩ => ⟨S16x1024x8192, .f32⟩
  | .hbm, ⟨76, _⟩ => ⟨S_, .f32⟩
  | .hbm, ⟨77, _⟩ => ⟨S16x1024, .f32⟩
  | .hbm, ⟨78, _⟩ => ⟨S_, .f32⟩
  | .hbm, ⟨79, _⟩ => ⟨S16x1024, .f32⟩
  | .hbm, ⟨80, _⟩ => ⟨S16x1024, .f32⟩
  | .hbm, ⟨81, _⟩ => ⟨S16x1024x1, .f32⟩
  | .hbm, ⟨82, _⟩ => ⟨S16x1024x8192, .f32⟩
  | .hbm, ⟨83, _⟩ => ⟨S16x1024x8192, .f32⟩
  | .hbm, ⟨84, _⟩ => ⟨S16x1024x8192, .f32⟩
  | .hbm, ⟨85, _⟩ => ⟨S_, .f32⟩
  | .hbm, ⟨86, _⟩ => ⟨S16x1024, .f32⟩
  | .hbm, ⟨87, _⟩ => ⟨S16x1024x1, .f32⟩
  | .hbm, ⟨88, _⟩ => ⟨S16x1024x8192, .f32⟩
  | .hbm, ⟨89, _⟩ => ⟨S16x1024x8192, .f32⟩
  | .hbm, ⟨90, _⟩ => ⟨S16x1024x32, .f32⟩
  | .hbm, ⟨91, _⟩ => ⟨S16x1024x32, .f32⟩
  | .hbm, ⟨92, _⟩ => ⟨S16x1024x32, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S16x1024x32, .f32⟩
  | .hbm, ⟨98, _⟩ => ⟨S16x1024x32, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S16x1024x32, .f32⟩
  | .hbm, ⟨108, _⟩ => ⟨S16x1024x32, .f32⟩
  | .hbm, ⟨109, _⟩ => ⟨S16x1024x8192x1, .f32⟩
  | .hbm, ⟨110, _⟩ => ⟨S16x1024x8192x1, .f32⟩
  | .hbm, ⟨111, _⟩ => ⟨S16x1024x8192x2, .f32⟩
  | _, _ => ⟨S16x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_cst_9 : Ref sig .tc := ⟨.hbm, 48, rfl⟩
abbrev main_v36 : Ref sig .tc := ⟨.hbm, 49, rfl⟩
abbrev main_cst_10 : Ref sig .tc := ⟨.hbm, 50, rfl⟩
abbrev main_v37 : Ref sig .tc := ⟨.hbm, 51, rfl⟩
abbrev main_v38 : Ref sig .tc := ⟨.hbm, 52, rfl⟩
abbrev main_cst_11 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_13 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_14 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_15 : Ref sig .tc := ⟨.hbm, 76, rfl⟩
abbrev main_v58 : Ref sig .tc := ⟨.hbm, 77, rfl⟩
abbrev main_cst_16 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_17 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_cst_18 : Ref sig .tc := ⟨.hbm, 93, rfl⟩
abbrev main_v72 : Ref sig .tc := ⟨.hbm, 94, rfl⟩
abbrev main_cst_19 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_20 : Ref sig .tc := ⟨.hbm, 99, rfl⟩
abbrev main_v76 : Ref sig .tc := ⟨.hbm, 100, rfl⟩
abbrev main_cst_21 : Ref sig .tc := ⟨.hbm, 101, rfl⟩
abbrev main_v77 : Ref sig .tc := ⟨.hbm, 102, rfl⟩
abbrev main_cst_22 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩

abbrev nD : Nat := 1
abbrev τ : Topo := Topo.v7x

variable {F : FTy → Type} [FloatOps F]
-- ==== Proof.Vq.Lift.lean ====
/- Finite extended reals: the operations of the ideal instance at elements that are real numbers. -/
module

public import Idealize.ShloMosaic.PureOps.Ideal.Laws
public import Idealize.ShloMosaic.Lib.ValueIdx
public import Idealize.ShloMosaic.Lib.IdealHost

@[expose] public section

noncomputable section

namespace Cert.Vq

open Idealize.ShloMosaic
open scoped BigOperators

/-- A finite sum of reals, taken in the extended reals, is the real sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A finite sum of products of reals, taken in the extended reals, is the real sum of products. -/
theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]; exact Finset.sum_congr rfl fun i _ => (EReal.coe_mul _ _).symm

/-- The maximum of minus infinity and finitely many reals, at least one of them, is a real. -/
theorem fold_max_coe {ι : Type} (s : Finset ι) (hs : s.Nonempty) (f : ι → EReal) (hf : ∀ i, ∃ r : ℝ, f i = (r : EReal)) :
    ∃ r : ℝ, s.fold max ⊥ f = (r : EReal) := by
  classical
  induction hs using Finset.Nonempty.cons_induction with
  | singleton a => obtain ⟨r, hr⟩ := hf a; exact ⟨r, by rw [Finset.fold_singleton, hr, max_bot_right]⟩
  | cons a s ha hs ih =>
    obtain ⟨r, hr⟩ := hf a
    obtain ⟨q, hq⟩ := ih
    rw [Finset.fold_cons, hq, hr]
    rcases le_total r q with h | h
    · exact ⟨q, max_eq_right (EReal.coe_le_coe_iff.mpr h)⟩
    · exact ⟨r, max_eq_left (EReal.coe_le_coe_iff.mpr h)⟩

/-- Division of reals by a nonzero real. -/
theorem div_coe (a b : ℝ) (hb : b ≠ 0) : Ideal.div (a : EReal) (b : EReal) = ((a / b : ℝ) : EReal) := by
  have h : ((b : ℝ) : EReal) ≠ 0 := by simpa using hb
  rw [Ideal.div, if_neg h, ← EReal.coe_inv, ← EReal.coe_mul, div_eq_mul_inv]

/-- The exponential of a real. -/
theorem exp_coe (a : ℝ) : Ideal.exp (a : EReal) = ((Real.exp a : ℝ) : EReal) := rfl

/-- The logarithm of a positive real. -/
theorem log_coe (a : ℝ) (ha : 0 < a) : Ideal.log (a : EReal) = ((Real.log a : ℝ) : EReal) := by
  show (if a ≤ 0 then (⊥ : EReal) else _) = _
  rw [if_neg (not_le.mpr ha)]

/-- The difference of two reals. -/
theorem sub_coe (a b : ℝ) : (a : EReal) - (b : EReal) = ((a - b : ℝ) : EReal) := (EReal.coe_sub a b).symm

/-- An extended real of absolute value below plus infinity is a real. -/
theorem exists_coe_of_abs_lt_top (a : EReal) (h : max a (-a) < ⊤) : ∃ r : ℝ, a = (r : EReal) := by
  induction a with
  | bot => simp at h
  | top => simp at h
  | coe r => exact ⟨r, rfl⟩

/-! ### The constants the programs write -/

theorem ofBits_bot : Ideal.ofBits .f32 0xFF800000#32 = ⊥ := by simp [Ideal.ofBits, Ideal.ieee]
theorem ofBits_top : Ideal.ofBits .f32 0x7F800000#32 = ⊤ := by simp [Ideal.ofBits, Ideal.ieee]
theorem ofBits_neg_one : Ideal.ofBits .f32 0xBF800000#32 = ((-1 : ℝ) : EReal) := by
  simp [Ideal.ofBits, Ideal.ieee, -EReal.coe_mul]; norm_num
theorem ofBits_one : Ideal.ofBits .f32 0x3F800000#32 = ((1 : ℝ) : EReal) := by
  simp
theorem ofBits_zero : Ideal.ofBits .f32 0x00000000#32 = ((0 : ℝ) : EReal) := by
  simp
theorem ofBits_two : Ideal.ofBits .f32 0x40000000#32 = ((2 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_count : Ideal.ofBits .f32 0x49000000#32 = ((524288 : ℝ) : EReal) := by
  simp [Ideal.ofBits, Ideal.ieee, -EReal.coe_mul]; norm_num
theorem ofBits_scale : Ideal.ofBits .f32 0x36200000#32 = ((5 / 4 / 524288 : ℝ) : EReal) := by
  simp [Ideal.ofBits, Ideal.ieee, -EReal.coe_mul]; norm_num

end Cert.Vq

end
-- ==== Proof.Vq.Finite.lean ====
/- The precondition, read: an argument every entry of which is finite holds real numbers. -/
module

public import proofs.«01_k».proof.Proof.Gen.Pre_finite
public import proofs.«01_k».proof.Proof.Vq.Lift
public import Idealize.ShloMosaic.Lib.ReduceAll
public import Idealize.ShloMosaic.Lib.Claim

@[expose] public section

noncomputable section

namespace Cert.Vq

open Cert.Pre_finite Cert.Pre_finite.Gen Idealize.ShloMosaic

/-- A comparison of an absolute value with plus infinity that says "less" is of a real number. -/
theorem real_of_olt {s : Shape} (x : FVec Ideal s .f32) (h : S_.BroadcastsInDim s (![] : Fin 0 → Fin s.rank)) (i : s.Idx)
    (e : cmpf .olt (Host.absf x) (broadcastInDim s ![] h (constant (F := Ideal) S_ .f32 0x7F800000#32)) i = 1#1) : ∃ r : ℝ, x i = (r : EReal) := by
  refine exists_coe_of_abs_lt_top (x i) ?_
  have e' : Ideal.cmp .olt (max (x i) (-(x i))) (Ideal.ofBits .f32 0x7F800000#32) = 1#1 := e
  rw [ofBits_top] at e'
  by_contra hn
  have e0 : Ideal.cmp .olt (max (x i) (-(x i))) ⊤ = 0#1 := by simp [Ideal.cmp, hn]
  rw [e0] at e'
  exact absurd e' (by decide)

/-- Where the precondition holds, both arguments hold real numbers. -/
theorem real_of_finite (x : FVec Ideal S16x1024x32 .f32) (cb : FVec Ideal S2x8192x32 .f32) (h : fn (F := Ideal) x cb = fun _ => 1#1) :
    (∀ i, ∃ r : ℝ, x i = (r : EReal)) ∧ ∀ i, ∃ r : ℝ, cb i = (r : EReal) := by
  have : Subsingleton S_.Idx := ⟨fun a b => funext fun x => x.elim0⟩
  have e := congrFun h (Shape.Idx.first Facts.h_S_)
  have e' := IntOp.andi_eq_one.1 e
  exact ⟨fun i => real_of_olt x _ i (Host.reduce_andi_all _ _ _ _ _ e'.1 i), fun i => real_of_olt cb _ i (Host.reduce_andi_all _ _ _ _ _ e'.2 i)⟩

end Cert.Vq

end
-- ==== Proof.Vq.Softmax.lean ====
/- The mathematics of one row of one round, over the reals: the score of a code, the softmax over the codes and the
   soft-quantized row. The score leaves out the row's own squared norm, which is the same for every code. -/
module

public import Mathlib.Analysis.SpecialFunctions.Log.Basic
public import Mathlib.Algebra.BigOperators.Field
public import Mathlib.Data.Fintype.BigOperators

@[expose] public section

noncomputable section

namespace Cert.Vq

open scoped BigOperators

variable {ι κ : Type} [Fintype ι] [Fintype κ]

/-- The score of code `k` against the row `x`: twice the inner product less the code's squared norm. -/
def score (C : ι → κ → ℝ) (x : κ → ℝ) (k : ι) : ℝ := 2 * ∑ d, x d * C k d - ∑ d, C k d * C k d

/-- The sum of the exponentials of the scores. -/
def mass (C : ι → κ → ℝ) (x : κ → ℝ) : ℝ := ∑ k, Real.exp (score C x k)

/-- The softmax weight of code `k`. -/
def prob (C : ι → κ → ℝ) (x : κ → ℝ) (k : ι) : ℝ := Real.exp (score C x k) / mass C x

/-- The row's soft quantization: the codes averaged by their softmax weights. -/
def quant (C : ι → κ → ℝ) (x : κ → ℝ) (d : κ) : ℝ := ∑ k, prob C x k * C k d

/-- What is left of the row after one round. -/
def resid (C : ι → κ → ℝ) (x : κ → ℝ) (d : κ) : ℝ := x d - quant C x d

/-- A sum of exponentials over a nonempty set of codes is positive, whatever the exponents. -/
theorem sum_exp_pos [Nonempty ι] (f : ι → ℝ) : 0 < ∑ k, Real.exp (f k) :=
  Finset.sum_pos (fun k _ => Real.exp_pos _) Finset.univ_nonempty

/-- The sum of the exponentials of the scores is positive. -/
theorem mass_pos [Nonempty ι] (C : ι → κ → ℝ) (x : κ → ℝ) : 0 < mass C x := sum_exp_pos _

/-- Lowering every score by the same `a` divides the sum of exponentials by `exp a`. -/
theorem sum_exp_sub (C : ι → κ → ℝ) (x : κ → ℝ) (a : ℝ) :
    ∑ k, Real.exp (score C x k - a) = mass C x * Real.exp (-a) := by
  rw [mass, Finset.sum_mul]
  exact Finset.sum_congr rfl fun k _ => by rw [sub_eq_add_neg, Real.exp_add]

/-- A softmax does not see a common shift of its scores. -/
theorem exp_sub_div (C : ι → κ → ℝ) (x : κ → ℝ) (a : ℝ) (k : ι) :
    Real.exp (score C x k - a) / ∑ j, Real.exp (score C x j - a) = prob C x k := by
  rw [sum_exp_sub, sub_eq_add_neg, Real.exp_add, prob, mul_div_mul_right _ _ (Real.exp_pos _).ne']

/-- The shift added back to the logarithm of the shifted sum is the logarithm of the unshifted one. -/
theorem add_log_sum_exp_sub [Nonempty ι] (C : ι → κ → ℝ) (x : κ → ℝ) (a : ℝ) :
    a + Real.log (∑ j, Real.exp (score C x j - a)) = Real.log (mass C x) := by
  rw [sum_exp_sub, Real.log_mul (mass_pos C x).ne' (Real.exp_pos _).ne', Real.log_exp]; ring

/-- The softmax weight is the exponential of the score less the logarithm of the sum of exponentials. -/
theorem exp_sub_log_mass [Nonempty ι] (C : ι → κ → ℝ) (x : κ → ℝ) (k : ι) :
    Real.exp (score C x k - Real.log (mass C x)) = prob C x k := by
  rw [Real.exp_sub, Real.exp_log (mass_pos C x), prob]

/-- Averaging with unnormalized weights and multiplying by the reciprocal of their sum is the soft quantization. -/
theorem sum_exp_sub_mul (C : ι → κ → ℝ) (x : κ → ℝ) (a : ℝ) (d : κ) :
    (∑ k, Real.exp (score C x k - a) * C k d) * (1 / ∑ j, Real.exp (score C x j - a)) = quant C x d := by
  rw [Finset.sum_mul, quant]
  exact Finset.sum_congr rfl fun k _ => by rw [← exp_sub_div C x a k]; ring

/-- The score less the row's own squared norm is minus the squared distance as the reference expands it. -/
theorem neg_dist (C : ι → κ → ℝ) (x : κ → ℝ) (k : ι) :
    -(∑ d, x d * x d - 2 * ∑ d, x d * C k d + ∑ d, C k d * C k d) = score C x k - ∑ d, x d * x d := by
  rw [score]; ring

end Cert.Vq

end
-- ==== Proof.Vq.Stage.lean ====
/- The vector operations of the kernel's body at the ideal instance, each at blocks whose elements are real numbers. A block
   holds 128 rows; a codebook comes with two more columns, its codes' squared norms in two parts. -/
module

public import proofs.«01_k».proof.Proof.Gen.KernelIdeal.Skeleton
public import proofs.«01_k».proof.Proof.Vq.Softmax
public import proofs.«01_k».proof.Proof.Vq.Lift
public import Idealize.ShloMosaic.Lib.Pipeline.Value
public import Idealize.ShloMosaic.Lib.ValueIdxCoords

@[expose] public section

noncomputable section

namespace Cert.Vq

open Cert.KernelIdeal Cert.KernelIdeal.Gen Idealize.ShloMosaic Idealize.ShloMosaic.ValueIdx
open scoped BigOperators

/-- Codes. -/
abbrev Codes := Fin 8192 → Fin 32 → ℝ
/-- A block of 128 rows. -/
abbrev Rows := Fin 128 → Fin 32 → ℝ

/-- A codebook with its norm columns holds the codes `C`: the codes in its first 32 columns, their squared norms in the
    next, and nothing in the last (the part of a norm its rounding loses; here nothing is rounded). -/
structure IsBook (b : FVec Ideal S8192x34 .f32) (C : Codes) : Prop where
  code : ∀ (k : Fin 8192) (d : Fin 32), b (ix2 k ⟨d.val, by omega⟩) = ((C k d : ℝ) : EReal)
  norm : ∀ k : Fin 8192, b (ix2 k ⟨32, by omega⟩) = ((∑ d, C k d * C k d : ℝ) : EReal)
  rest : ∀ k : Fin 8192, b (ix2 k ⟨33, by omega⟩) = ((0 : ℝ) : EReal)

/-- A block holds the rows `X`. -/
def IsRows (x : FVec Ideal S128x32 .f32) (X : Rows) : Prop := ∀ p d, x (ix2 p d) = ((X p d : ℝ) : EReal)

/-- A column holds the numbers `v`. -/
def IsCol (x : FVec Ideal S128x1 .f32) (v : Fin 128 → ℝ) : Prop := ∀ p, x (ix2 p u0) = ((v p : ℝ) : EReal)

/-- A table of one number per row and code holds `s`. -/
def IsTable (x : FVec Ideal S128x8192 .f32) (s : Fin 128 → Fin 8192 → ℝ) : Prop := ∀ p k, x (ix2 p k) = ((s p k : ℝ) : EReal)

/-! ### The three products -/

/-- Rows times codes, both along their columns. -/
theorem dotScores_apply (a : FVec Ideal S128x34 .f32) (b : FVec Ideal S8192x34 .f32) (p : Fin 128) (k : Fin 8192) :
    matmul dot_S128x34_S8192x34_S128x8192_1_1_0_0_n_n none a b (constant S128x8192 .f32 0x00000000#32) (ix2 p k)
      = ∑ d : Fin 34, a (ix2 p d) * b (ix2 k d) := by
  simp only [matmul]
  rw [Ideal.matmul_constant_zero_apply, ← Equiv.sum_comp (contrEquiv1 dot_S128x34_S8192x34_S128x8192_1_1_0_0_n_n 34 rfl rfl).symm]
  refine Finset.sum_congr rfl fun d _ => ?_
  have hd := contrEquiv1_symm_val dot_S128x34_S8192x34_S128x8192_1_1_0_0_n_n 34 rfl rfl d
  congr 2
  · funext x; apply Fin.ext; match x with
    | ⟨0, _⟩ => rfl
    | ⟨1, _⟩ => exact (dot_S128x34_S8192x34_S128x8192_1_1_0_0_n_n.lhsIdx_val_of_single rfl _ _).trans hd
  · funext x; apply Fin.ext; match x with
    | ⟨0, _⟩ => rfl
    | ⟨1, _⟩ => exact (dot_S128x34_S8192x34_S128x8192_1_1_0_0_n_n.rhsIdx_val_of_single rfl _ _).trans hd

/-- Weights times codes, along the codes. -/
theorem dotMix_apply (a : FVec Ideal S128x8192 .f32) (b : FVec Ideal S8192x32 .f32) (p : Fin 128) (d : Fin 32) :
    matmul dot_S128x8192_S8192x32_S128x32_1_0_0_1_n_n none a b (constant S128x32 .f32 0x00000000#32) (ix2 p d)
      = ∑ k : Fin 8192, a (ix2 p k) * b (ix2 k d) := by
  simp only [matmul]
  rw [Ideal.matmul_constant_zero_apply, ← Equiv.sum_comp (contrEquiv1 dot_S128x8192_S8192x32_S128x32_1_0_0_1_n_n 8192 rfl rfl).symm]
  refine Finset.sum_congr rfl fun k _ => ?_
  have hd := contrEquiv1_symm_val dot_S128x8192_S8192x32_S128x32_1_0_0_1_n_n 8192 rfl rfl k
  congr 2
  · funext x; apply Fin.ext; match x with
    | ⟨0, _⟩ => rfl
    | ⟨1, _⟩ => exact (dot_S128x8192_S8192x32_S128x32_1_0_0_1_n_n.lhsIdx_val_of_single rfl _ _).trans hd
  · funext x; apply Fin.ext; match x with
    | ⟨0, _⟩ => exact (dot_S128x8192_S8192x32_S128x32_1_0_0_1_n_n.rhsIdx_val_of_single rfl _ _).trans hd
    | ⟨1, _⟩ => rfl

/-- The table product: rows of seventy numbers times the 70 by 16384 table. -/
theorem dotTable_apply (a : FVec Ideal S128x70 .f32) (b : FVec Ideal S70x16384 .f32) (p : Fin 128) (j : Fin 16384) :
    matmul dot_S128x70_S70x16384_S128x16384_1_0_0_1_n_n none a b (constant S128x16384 .f32 0x00000000#32) (ix2 p j)
      = ∑ d : Fin 70, a (ix2 p d) * b (ix2 d j) := by
  simp only [matmul]
  rw [Ideal.matmul_constant_zero_apply, ← Equiv.sum_comp (contrEquiv1 dot_S128x70_S70x16384_S128x16384_1_0_0_1_n_n 70 rfl rfl).symm]
  refine Finset.sum_congr rfl fun k _ => ?_
  have hd := contrEquiv1_symm_val dot_S128x70_S70x16384_S128x16384_1_0_0_1_n_n 70 rfl rfl k
  congr 2
  · funext x; apply Fin.ext; match x with
    | ⟨0, _⟩ => rfl
    | ⟨1, _⟩ => exact (dot_S128x70_S70x16384_S128x16384_1_0_0_1_n_n.lhsIdx_val_of_single rfl _ _).trans hd
  · funext x; apply Fin.ext; match x with
    | ⟨0, _⟩ => exact (dot_S128x70_S70x16384_S128x16384_1_0_0_1_n_n.rhsIdx_val_of_single rfl _ _).trans hd
    | ⟨1, _⟩ => rfl

/-! ### One round, stage by stage -/

/-- The score table: the doubled rows with two columns of minus one, times the codebook with its norm columns. -/
theorem scores_isTable {r : FVec Ideal S128x32 .f32} {b : FVec Ideal S8192x34 .f32} {R : Rows} {C : Codes} (hr : IsRows r R) (hb : IsBook b C) :
    IsTable (matmul dot_S128x34_S8192x34_S128x8192_1_1_0_0_n_n none
      (concatenate S128x34 1 [⟨S128x32, addf r r⟩, ⟨S128x2, broadcast S128x2 (Scalar.ofBits .f32 0xBF800000#32 : Ideal .f32)⟩]
        concatenates_S128x32_S128x2_S128x34_d1) b (constant S128x8192 .f32 0x00000000#32)) fun p k => score C (R p) k := by
  intro p k
  rw [dotScores_apply, Fin.sum_univ_castSucc, Fin.sum_univ_castSucc]
  have hL : ∀ d : Fin 32, concatenate S128x34 1 [⟨S128x32, addf r r⟩, ⟨S128x2, broadcast S128x2 (Scalar.ofBits .f32 0xBF800000#32 : Ideal .f32)⟩]
      concatenates_S128x32_S128x2_S128x34_d1 (ix2 p d.castSucc.castSucc) = ((R p d + R p d : ℝ) : EReal) := by
    intro d
    refine (concatenate_pair_apply_left (t := S128x34) (s₁ := S128x32) (s₂ := S128x2) 1 _ _
      concatenates_S128x32_S128x2_S128x34_d1 (ix2 p d.castSucc.castSucc) rfl (ix2 p d) (fun x => match x with
      | ⟨0, _⟩ => rfl
      | ⟨1, _⟩ => rfl)).trans ?_
    rw [addf_apply, hr, EReal.coe_add]
  have hR : ∀ (e : Fin 2) (d : Fin 34), d.val = e.val + 32 → concatenate S128x34 1 [⟨S128x32, addf r r⟩, ⟨S128x2, broadcast S128x2 (Scalar.ofBits .f32 0xBF800000#32 : Ideal .f32)⟩]
      concatenates_S128x32_S128x2_S128x34_d1 (ix2 p d) = ((-1 : ℝ) : EReal) := by
    intro e d he
    refine (concatenate_pair_apply_right (t := S128x34) (s₁ := S128x32) (s₂ := S128x2) 1 _ _
      concatenates_S128x32_S128x2_S128x34_d1 (ix2 p d) rfl rfl (ix2 p e) (fun x hx => match x, hx with
      | ⟨0, _⟩, _ => rfl
      | ⟨1, _⟩, hx => absurd rfl hx) he.symm).trans ?_
    exact ofBits_neg_one
  rw [hR 0 _ rfl, hR 1 _ rfl]
  have e1 : b (ix2 k (Fin.last 32).castSucc) = _ := hb.norm k
  have e2 : b (ix2 k (Fin.last 33)) = _ := hb.rest k
  rw [e1, e2, ← EReal.coe_mul, ← EReal.coe_mul]
  have e3 : ∀ d : Fin 32, b (ix2 k d.castSucc.castSucc) = ((C k d : ℝ) : EReal) := fun d => hb.code k d
  simp only [hL, e3]
  rw [coe_sum_mul, ← EReal.coe_add, ← EReal.coe_add]
  refine congrArg _ ?_
  have h2 : ∑ d, (R p d + R p d) * C k d = 2 * ∑ d, R p d * C k d := by
    rw [Finset.mul_sum]; exact Finset.sum_congr rfl fun d _ => by ring
  rw [h2]
  show _ = score C (R p) k
  rw [score]
  generalize ∑ d, R p d * C k d = A
  generalize ∑ d, C k d * C k d = N
  ring

/-- A vector of 128 entries stored as a column. -/
theorem col_apply (v : FVec Ideal S128 .f32) (p : Fin 128) : shapeCast S128x1 v shapeCasts_S128_S128x1 (ix2 p u0) = v (ix1 p) :=
  shapeCast_apply v shapeCasts_S128_S128x1 _ _ (by
    rw [Shape.rowMajor_val_one, Shape.rowMajor_val_two]; show p.val = p.val * 1 + 0; omega)

/-- The greatest entry of each row of a table is some real number. -/
theorem rowMax_isCol {s : FVec Ideal S128x8192 .f32} {S : Fin 128 → Fin 8192 → ℝ} (hs : IsTable s S) :
    ∃ M, IsCol (shapeCast S128x1 (multiReduction .maximumf [1] S128 s 0xFF800000#32 reduces_S128x8192_S128 (.inl rfl) rfl) shapeCasts_S128_S128x1) M := by
  have h : ∀ p : Fin 128, ∃ M : ℝ, shapeCast S128x1 (multiReduction .maximumf [1] S128 s 0xFF800000#32 reduces_S128x8192_S128 (.inl rfl) rfl) shapeCasts_S128_S128x1 (ix2 p u0) = (M : EReal) := by
    intro p
    rw [col_apply]
    have e0 := Ideal.multiReduction_maximumf_single s 0xFF800000#32 reduces_S128x8192_S128 (.inl rfl) rfl (ix1 p)
    simp only [e0]
    have e : (FloatOps.ofBits .f32 0xFF800000#32 : Ideal .f32) = ⊥ := ofBits_bot
    simp only [e]
    refine fold_max_coe _ ⟨(0 : Fin 8192), Finset.mem_univ _⟩ _ fun k => ⟨S p k, ?_⟩
    show s _ = _
    rw [← hs p k]
    exact congrArg s (funext fun x => Fin.ext (by match x with | ⟨0, _⟩ => rfl | ⟨1, _⟩ => rfl))
  choose M hM using h
  exact ⟨M, hM⟩

/-- The sum of each row of a table. -/
theorem rowSum_isCol {s : FVec Ideal S128x8192 .f32} {S : Fin 128 → Fin 8192 → ℝ} (hs : IsTable s S) :
    IsCol (shapeCast S128x1 (multiReduction .add [1] S128 s 0x00000000#32 reduces_S128x8192_S128 (.inl rfl) rfl) shapeCasts_S128_S128x1) fun p => ∑ k, S p k := by
  intro p
  rw [← coe_sum]
  refine (col_apply _ p).trans ((Ideal.multiReduction_add_single s _ reduces_S128x8192_S128 _ _ _).trans ?_)
  refine Finset.sum_congr rfl fun k _ => ?_
  rw [← hs p k]
  exact congrArg s (funext fun x => Fin.ext (by match x with | ⟨0, _⟩ => rfl | ⟨1, _⟩ => rfl))

/-- The exponentials of a table's entries less a number per row. -/
theorem expShift_isTable {s : FVec Ideal S128x8192 .f32} {S : Fin 128 → Fin 8192 → ℝ} {c : FVec Ideal S128x1 .f32} {M : Fin 128 → ℝ}
    (hs : IsTable s S) (hc : IsCol c M) :
    IsTable (exp (subf s (broadcastTo S128x8192 c broadcasts_S128x1_S128x8192))) fun p k => Real.exp (S p k - M p) := by
  intro p k
  show Ideal.exp (s (ix2 p k) - broadcastTo S128x8192 c broadcasts_S128x1_S128x8192 (ix2 p k)) = _
  rw [broadcastTo_apply c broadcasts_S128x1_S128x8192 (ix2 p k) (ix2 p u0) (fun x => match x with
    | ⟨0, _⟩ => rfl
    | ⟨1, _⟩ => rfl), hs, hc, sub_coe, exp_coe]

/-- The mixture: unnormalized weights times the codes, times the reciprocal of the weights' sum. -/
theorem mix_isRows {e : FVec Ideal S128x8192 .f32} {E : Fin 128 → Fin 8192 → ℝ} {b : FVec Ideal S8192x34 .f32} {C : Codes}
    {s : FVec Ideal S128x1 .f32} {D : Fin 128 → ℝ} (he : IsTable e E) (hb : IsBook b C) (hs : IsCol s D) (hD : ∀ p, D p ≠ 0) :
    IsRows (mulf (matmul dot_S128x8192_S8192x32_S128x32_1_0_0_1_n_n none e (extractStridedSlice S8192x32 ![0, 0] b slices_S8192x34_o0_0_S8192x32)
        (constant S128x32 .f32 0x00000000#32))
      (broadcastTo S128x32 (divf (broadcast S128x1 (Scalar.ofBits .f32 0x3F800000#32 : Ideal .f32)) s) broadcasts_S128x1_S128x32))
      fun p d => (∑ k, E p k * C k d) * (1 / D p) := by
  intro p d
  have hmix : ∑ k : Fin 8192, e (ix2 p k) * extractStridedSlice S8192x32 ![0, 0] b slices_S8192x34_o0_0_S8192x32 (ix2 k d)
      = ((∑ k, E p k * C k d : ℝ) : EReal) := by
    rw [← coe_sum_mul]
    refine Finset.sum_congr rfl fun k _ => ?_
    have e2 := extractStridedSlice_apply ![0, 0] b slices_S8192x34_o0_0_S8192x32 (ix2 k d) (ix2 k (⟨d.val, by omega⟩ : Fin 34)) (fun x => by
      match x with
      | ⟨0, _⟩ => exact (Nat.zero_add _).symm
      | ⟨1, _⟩ => exact (Nat.zero_add _).symm)
    rw [he, e2, hb.code]
  have hrec : broadcastTo S128x32 (divf (broadcast S128x1 (Scalar.ofBits .f32 0x3F800000#32 : Ideal .f32)) s) broadcasts_S128x1_S128x32 (ix2 p d)
      = ((1 / D p : ℝ) : EReal) := by
    refine (broadcastTo_apply _ broadcasts_S128x1_S128x32 (ix2 p d) (ix2 p u0) (fun x => match x with
      | ⟨0, _⟩ => rfl
      | ⟨1, _⟩ => rfl)).trans ?_
    rw [divf_apply, hs, ← div_coe _ _ (hD p)]
    exact congrArg (Ideal.div · _) ofBits_one
  rw [mulf_apply, dotMix_apply, hmix, hrec, EReal.coe_mul]

end Cert.Vq

end
-- ==== Proof.Vq.Table.lean ====
/- The probability table's product: what the concatenated rows and the concatenated columns are, entry by entry, and the sum
   over their seventy coordinates. -/
module

public import proofs.«01_k».proof.Proof.Vq.Stage

@[expose] public section

noncomputable section

namespace Cert.Vq

open Cert.KernelIdeal Cert.KernelIdeal.Gen Idealize.ShloMosaic Idealize.ShloMosaic.ValueIdx
open scoped BigOperators

/-- A sum over seventy coordinates as the two groups of 32 and the six single ones. -/
theorem sum_seventy (f : Fin 70 → EReal) :
    ∑ d, f d = (∑ d : Fin 32, f ⟨d.val, by omega⟩) + (∑ d : Fin 32, f ⟨32 + d.val, by omega⟩)
      + f ⟨64, by omega⟩ + f ⟨65, by omega⟩ + f ⟨66, by omega⟩ + f ⟨67, by omega⟩ + f ⟨68, by omega⟩ + f ⟨69, by omega⟩ := by
  iterate 6 rw [Fin.sum_univ_castSucc]
  rw [show (∑ i : Fin 64, f i.castSucc.castSucc.castSucc.castSucc.castSucc.castSucc) = _ from
    Fin.sum_univ_add (a := 32) (b := 32) fun i => f i.castSucc.castSucc.castSucc.castSucc.castSucc.castSucc]
  rfl

section Pieces

variable {n : Nat} (x y : (⟨2, ![n, 32]⟩ : Shape).Idx → EReal) (z0 z1 z2 z3 z4 z5 : (⟨2, ![n, 1]⟩ : Shape).Idx → EReal)

/-- Two blocks of 32 columns and six single columns, side by side. -/
abbrev pieces : List ((s : Shape) × (s.Idx → EReal)) :=
  [⟨⟨2, ![n, 32]⟩, x⟩, ⟨⟨2, ![n, 32]⟩, y⟩, ⟨⟨2, ![n, 1]⟩, z0⟩, ⟨⟨2, ![n, 1]⟩, z1⟩, ⟨⟨2, ![n, 1]⟩, z2⟩, ⟨⟨2, ![n, 1]⟩, z3⟩,
    ⟨⟨2, ![n, 1]⟩, z4⟩, ⟨⟨2, ![n, 1]⟩, z5⟩]

variable (h : Shape.Concatenates ((pieces x y z0 z1 z2 z3 z4 z5).map (·.1)) ⟨2, ![n, 70]⟩ 1)

/-- The first 32 columns are the first block's. -/
theorem pieces_fst (p : Fin n) (d : Fin 32) :
    concatenate ⟨2, ![n, 70]⟩ 1 (pieces x y z0 z1 z2 z3 z4 z5) h (ix2 p ⟨d.val, by omega⟩) = x (ix2 p d) :=
  concatenate_apply_piece (t := ⟨2, ![n, 70]⟩) 1 _ h _ 0 (show 0 < 8 by decide) ⟨2, ![n, 32]⟩ x rfl rfl 0 rfl (ix2 p d)
    (fun b hb => match b, hb with
      | ⟨0, _⟩, _ => rfl
      | ⟨1, _⟩, hb => absurd rfl hb) (Nat.zero_add _)

/-- The next 32 columns are the second block's. -/
theorem pieces_snd (p : Fin n) (d : Fin 32) :
    concatenate ⟨2, ![n, 70]⟩ 1 (pieces x y z0 z1 z2 z3 z4 z5) h (ix2 p ⟨32 + d.val, by omega⟩) = y (ix2 p d) :=
  concatenate_apply_piece (t := ⟨2, ![n, 70]⟩) 1 _ h _ 1 (show 1 < 8 by decide) ⟨2, ![n, 32]⟩ y rfl rfl 32 rfl (ix2 p d)
    (fun b hb => match b, hb with
      | ⟨0, _⟩, _ => rfl
      | ⟨1, _⟩, hb => absurd rfl hb) rfl

/-- Column 64 is the first single column. -/
theorem pieces_64 (p : Fin n) :
    concatenate ⟨2, ![n, 70]⟩ 1 (pieces x y z0 z1 z2 z3 z4 z5) h (ix2 p ⟨64, by omega⟩) = z0 (ix2 p u0) :=
  concatenate_apply_piece (t := ⟨2, ![n, 70]⟩) 1 _ h _ 2 (show 2 < 8 by decide) ⟨2, ![n, 1]⟩ z0 rfl rfl 64 rfl (ix2 p u0)
    (fun b hb => match b, hb with
      | ⟨0, _⟩, _ => rfl
      | ⟨1, _⟩, hb => absurd rfl hb) rfl

/-- Column 65 is the second single column. -/
theorem pieces_65 (p : Fin n) :
    concatenate ⟨2, ![n, 70]⟩ 1 (pieces x y z0 z1 z2 z3 z4 z5) h (ix2 p ⟨65, by omega⟩) = z1 (ix2 p u0) :=
  concatenate_apply_piece (t := ⟨2, ![n, 70]⟩) 1 _ h _ 3 (show 3 < 8 by decide) ⟨2, ![n, 1]⟩ z1 rfl rfl 65 rfl (ix2 p u0)
    (fun b hb => match b, hb with
      | ⟨0, _⟩, _ => rfl
      | ⟨1, _⟩, hb => absurd rfl hb) rfl

/-- Column 66 is the third single column. -/
theorem pieces_66 (p : Fin n) :
    concatenate ⟨2, ![n, 70]⟩ 1 (pieces x y z0 z1 z2 z3 z4 z5) h (ix2 p ⟨66, by omega⟩) = z2 (ix2 p u0) :=
  concatenate_apply_piece (t := ⟨2, ![n, 70]⟩) 1 _ h _ 4 (show 4 < 8 by decide) ⟨2, ![n, 1]⟩ z2 rfl rfl 66 rfl (ix2 p u0)
    (fun b hb => match b, hb with
      | ⟨0, _⟩, _ => rfl
      | ⟨1, _⟩, hb => absurd rfl hb) rfl

/-- Column 67 is the fourth single column. -/
theorem pieces_67 (p : Fin n) :
    concatenate ⟨2, ![n, 70]⟩ 1 (pieces x y z0 z1 z2 z3 z4 z5) h (ix2 p ⟨67, by omega⟩) = z3 (ix2 p u0) :=
  concatenate_apply_piece (t := ⟨2, ![n, 70]⟩) 1 _ h _ 5 (show 5 < 8 by decide) ⟨2, ![n, 1]⟩ z3 rfl rfl 67 rfl (ix2 p u0)
    (fun b hb => match b, hb with
      | ⟨0, _⟩, _ => rfl
      | ⟨1, _⟩, hb => absurd rfl hb) rfl

/-- Column 68 is the fifth single column. -/
theorem pieces_68 (p : Fin n) :
    concatenate ⟨2, ![n, 70]⟩ 1 (pieces x y z0 z1 z2 z3 z4 z5) h (ix2 p ⟨68, by omega⟩) = z4 (ix2 p u0) :=
  concatenate_apply_piece (t := ⟨2, ![n, 70]⟩) 1 _ h _ 6 (show 6 < 8 by decide) ⟨2, ![n, 1]⟩ z4 rfl rfl 68 rfl (ix2 p u0)
    (fun b hb => match b, hb with
      | ⟨0, _⟩, _ => rfl
      | ⟨1, _⟩, hb => absurd rfl hb) rfl

/-- Column 69 is the last single column. -/
theorem pieces_69 (p : Fin n) :
    concatenate ⟨2, ![n, 70]⟩ 1 (pieces x y z0 z1 z2 z3 z4 z5) h (ix2 p ⟨69, by omega⟩) = z5 (ix2 p u0) :=
  concatenate_apply_piece (t := ⟨2, ![n, 70]⟩) 1 _ h _ 7 (show 7 < 8 by decide) ⟨2, ![n, 1]⟩ z5 rfl rfl 69 rfl (ix2 p u0)
    (fun b hb => match b, hb with
      | ⟨0, _⟩, _ => rfl
      | ⟨1, _⟩, hb => absurd rfl hb) rfl

end Pieces

/-- The column of the table that stands for code `k` in round `r`: the codes come in groups of 128, and each group's two
    rounds lie side by side. -/
def tableCol (r : Fin 2) (k : Fin 8192) : Fin 16384 := ⟨(k.val / 128 * 2 + r.val) * 128 + k.val % 128, by omega⟩

/-- The 70 by 16384 table holds the two codebooks: in a column of the first round twice the code in the first 32 rows, in a
    column of the second round twice the code in the next 32; then minus the code's squared norm (in two parts, the second
    zero), and minus one twice in the rows of the column's own round, zero in the other's. -/
structure IsProj (c : FVec Ideal S70x16384 .f32) (C D : Codes) : Prop where
  top0 : ∀ (k : Fin 8192) (d : Fin 32), c (ix2 ⟨d.val, by omega⟩ (tableCol 0 k)) = ((2 * C k d : ℝ) : EReal)
  top1 : ∀ (k : Fin 8192) (d : Fin 32), c (ix2 ⟨d.val, by omega⟩ (tableCol 1 k)) = ((0 : ℝ) : EReal)
  bot0 : ∀ (k : Fin 8192) (d : Fin 32), c (ix2 ⟨32 + d.val, by omega⟩ (tableCol 0 k)) = ((0 : ℝ) : EReal)
  bot1 : ∀ (k : Fin 8192) (d : Fin 32), c (ix2 ⟨32 + d.val, by omega⟩ (tableCol 1 k)) = ((2 * D k d : ℝ) : EReal)
  norm0 : ∀ k : Fin 8192, c (ix2 ⟨64, by omega⟩ (tableCol 0 k)) = ((-∑ d, C k d * C k d : ℝ) : EReal)
  norm1 : ∀ k : Fin 8192, c (ix2 ⟨64, by omega⟩ (tableCol 1 k)) = ((-∑ d, D k d * D k d : ℝ) : EReal)
  rest : ∀ (r : Fin 2) (k : Fin 8192), c (ix2 ⟨65, by omega⟩ (tableCol r k)) = ((0 : ℝ) : EReal)
  fst0 : ∀ k : Fin 8192, c (ix2 ⟨66, by omega⟩ (tableCol 0 k)) = ((-1 : ℝ) : EReal)
  fst1 : ∀ k : Fin 8192, c (ix2 ⟨66, by omega⟩ (tableCol 1 k)) = ((0 : ℝ) : EReal)
  fst0' : ∀ k : Fin 8192, c (ix2 ⟨67, by omega⟩ (tableCol 0 k)) = ((-1 : ℝ) : EReal)
  fst1' : ∀ k : Fin 8192, c (ix2 ⟨67, by omega⟩ (tableCol 1 k)) = ((0 : ℝ) : EReal)
  snd0 : ∀ k : Fin 8192, c (ix2 ⟨68, by omega⟩ (tableCol 0 k)) = ((0 : ℝ) : EReal)
  snd1 : ∀ k : Fin 8192, c (ix2 ⟨68, by omega⟩ (tableCol 1 k)) = ((-1 : ℝ) : EReal)
  snd0' : ∀ k : Fin 8192, c (ix2 ⟨69, by omega⟩ (tableCol 0 k)) = ((0 : ℝ) : EReal)
  snd1' : ∀ k : Fin 8192, c (ix2 ⟨69, by omega⟩ (tableCol 1 k)) = ((-1 : ℝ) : EReal)

section Product

variable {x y : FVec Ideal S128x32 .f32} {X Y : Rows} {l l' : FVec Ideal S128x1 .f32} {L L' : Fin 128 → ℝ} {c : FVec Ideal S70x16384 .f32} {C D : Codes}

/-- A row of the left factor: the row, its residual, two ones, and the two logarithms each with a zero beside it. -/
abbrev augmented (x y : FVec Ideal S128x32 .f32) (l l' : FVec Ideal S128x1 .f32) : FVec Ideal S128x70 .f32 :=
  concatenate S128x70 1 [⟨S128x32, x⟩, ⟨S128x32, y⟩, ⟨S128x1, broadcast S128x1 (Scalar.ofBits .f32 0x3F800000#32 : Ideal .f32)⟩,
    ⟨S128x1, broadcast S128x1 (Scalar.ofBits .f32 0x3F800000#32 : Ideal .f32)⟩, ⟨S128x1, l⟩, ⟨S128x1, subf l l⟩, ⟨S128x1, l'⟩, ⟨S128x1, subf l' l'⟩]
    concatenates_S128x32_S128x32_S128x1_S128x1_S128x1_S128x1_S128x1_S128x1_S128x70_d1

/-- A column less itself is zero. -/
theorem sub_self_isCol (hl : IsCol l L) : IsCol (subf l l) fun _ => 0 := fun p => by
  rw [subf_apply, hl, sub_coe, sub_self]

/-- An augmented row times any column of real numbers. -/
theorem augmented_dot (hx : IsRows x X) (hy : IsRows y Y) (hl : IsCol l L) (hl' : IsCol l' L') (p : Fin 128) (j : Fin 16384)
    {T B : Fin 32 → ℝ} {n0 n1 f0 f1 s0 s1 : ℝ}
    (hT : ∀ d : Fin 32, c (ix2 ⟨d.val, by omega⟩ j) = ((T d : ℝ) : EReal)) (hB : ∀ d : Fin 32, c (ix2 ⟨32 + d.val, by omega⟩ j) = ((B d : ℝ) : EReal))
    (h0 : c (ix2 ⟨64, by omega⟩ j) = (n0 : EReal)) (h1 : c (ix2 ⟨65, by omega⟩ j) = (n1 : EReal))
    (h2 : c (ix2 ⟨66, by omega⟩ j) = (f0 : EReal)) (h3 : c (ix2 ⟨67, by omega⟩ j) = (f1 : EReal))
    (h4 : c (ix2 ⟨68, by omega⟩ j) = (s0 : EReal)) (h5 : c (ix2 ⟨69, by omega⟩ j) = (s1 : EReal)) :
    matmul dot_S128x70_S70x16384_S128x16384_1_0_0_1_n_n none (augmented x y l l') c (constant S128x16384 .f32 0x00000000#32) (ix2 p j)
      = (((∑ d, X p d * T d) + (∑ d, Y p d * B d) + n0 + n1 + L p * f0 + L' p * s0 : ℝ) : EReal) := by
  have hone : ∀ q, (broadcast S128x1 (Scalar.ofBits .f32 0x3F800000#32 : Ideal .f32)) q = ((1 : ℝ) : EReal) := fun _ => ofBits_one
  rw [dotTable_apply, sum_seventy, h0, h1, h2, h3, h4, h5]
  have e0 : ∀ d : Fin 32, augmented x y l l' (ix2 p ⟨d.val, by omega⟩) = ((X p d : ℝ) : EReal) := fun d =>
    (pieces_fst (n := 128) x y _ _ _ _ _ _ concatenates_S128x32_S128x32_S128x1_S128x1_S128x1_S128x1_S128x1_S128x1_S128x70_d1 p d).trans (hx p d)
  have e1 : ∀ d : Fin 32, augmented x y l l' (ix2 p ⟨32 + d.val, by omega⟩) = ((Y p d : ℝ) : EReal) := fun d =>
    (pieces_snd (n := 128) x y _ _ _ _ _ _ concatenates_S128x32_S128x32_S128x1_S128x1_S128x1_S128x1_S128x1_S128x1_S128x70_d1 p d).trans (hy p d)
  have e2 : augmented x y l l' (ix2 p ⟨64, by omega⟩) = ((1 : ℝ) : EReal) :=
    (pieces_64 (n := 128) x y _ _ _ _ _ _ concatenates_S128x32_S128x32_S128x1_S128x1_S128x1_S128x1_S128x1_S128x1_S128x70_d1 p).trans (hone _)
  have e3 : augmented x y l l' (ix2 p ⟨65, by omega⟩) = ((1 : ℝ) : EReal) :=
    (pieces_65 (n := 128) x y _ _ _ _ _ _ concatenates_S128x32_S128x32_S128x1_S128x1_S128x1_S128x1_S128x1_S128x1_S128x70_d1 p).trans (hone _)
  have e4 : augmented x y l l' (ix2 p ⟨66, by omega⟩) = ((L p : ℝ) : EReal) :=
    (pieces_66 (n := 128) x y _ _ _ _ _ _ concatenates_S128x32_S128x32_S128x1_S128x1_S128x1_S128x1_S128x1_S128x1_S128x70_d1 p).trans (hl p)
  have e5 : augmented x y l l' (ix2 p ⟨67, by omega⟩) = ((0 : ℝ) : EReal) :=
    (pieces_67 (n := 128) x y _ _ _ _ _ _ concatenates_S128x32_S128x32_S128x1_S128x1_S128x1_S128x1_S128x1_S128x1_S128x70_d1 p).trans (sub_self_isCol hl p)
  have e6 : augmented x y l l' (ix2 p ⟨68, by omega⟩) = ((L' p : ℝ) : EReal) :=
    (pieces_68 (n := 128) x y _ _ _ _ _ _ concatenates_S128x32_S128x32_S128x1_S128x1_S128x1_S128x1_S128x1_S128x1_S128x70_d1 p).trans (hl' p)
  have e7 : augmented x y l l' (ix2 p ⟨69, by omega⟩) = ((0 : ℝ) : EReal) :=
    (pieces_69 (n := 128) x y _ _ _ _ _ _ concatenates_S128x32_S128x32_S128x1_S128x1_S128x1_S128x1_S128x1_S128x1_S128x70_d1 p).trans (sub_self_isCol hl' p)
  rw [e2, e3, e4, e5, e6, e7]
  have s0' : ∑ d : Fin 32, augmented x y l l' (ix2 p ⟨d.val, by omega⟩) * c (ix2 ⟨d.val, by omega⟩ j) = ((∑ d, X p d * T d : ℝ) : EReal) := by
    rw [← coe_sum_mul]; exact Finset.sum_congr rfl fun d _ => by rw [e0, hT]
  have s1' : ∑ d : Fin 32, augmented x y l l' (ix2 p ⟨32 + d.val, by omega⟩) * c (ix2 ⟨32 + d.val, by omega⟩ j) = ((∑ d, Y p d * B d : ℝ) : EReal) := by
    rw [← coe_sum_mul]; exact Finset.sum_congr rfl fun d _ => by rw [e1, hB]
  rw [s0', s1']
  simp only [← EReal.coe_mul, ← EReal.coe_add]
  refine congrArg _ ?_
  ring

/-- In a first-round column: the first round's score less the first logarithm. -/
theorem augmented_dot_fst (hx : IsRows x X) (hy : IsRows y Y) (hl : IsCol l L) (hl' : IsCol l' L') (hc : IsProj c C D) (p : Fin 128) (k : Fin 8192) :
    matmul dot_S128x70_S70x16384_S128x16384_1_0_0_1_n_n none (augmented x y l l') c (constant S128x16384 .f32 0x00000000#32) (ix2 p (tableCol 0 k))
      = ((score C (X p) k - L p : ℝ) : EReal) := by
  rw [augmented_dot hx hy hl hl' p (tableCol 0 k) (fun d => hc.top0 k d) (fun d => hc.bot0 k d) (hc.norm0 k) (hc.rest 0 k) (hc.fst0 k) (hc.fst0' k) (hc.snd0 k) (hc.snd0' k)]
  refine congrArg _ ?_
  have e : ∑ d, X p d * (2 * C k d) = 2 * ∑ d, X p d * C k d := by
    rw [Finset.mul_sum]; exact Finset.sum_congr rfl fun d _ => by ring
  have e' : ∑ d : Fin 32, Y p d * (0 : ℝ) = 0 := by simp
  rw [e, e', score]
  generalize ∑ d, X p d * C k d = A
  generalize ∑ d, C k d * C k d = N
  ring

/-- In a second-round column: the second round's score of the residual less the second logarithm. -/
theorem augmented_dot_snd (hx : IsRows x X) (hy : IsRows y Y) (hl : IsCol l L) (hl' : IsCol l' L') (hc : IsProj c C D) (p : Fin 128) (k : Fin 8192) :
    matmul dot_S128x70_S70x16384_S128x16384_1_0_0_1_n_n none (augmented x y l l') c (constant S128x16384 .f32 0x00000000#32) (ix2 p (tableCol 1 k))
      = ((score D (Y p) k - L' p : ℝ) : EReal) := by
  rw [augmented_dot hx hy hl hl' p (tableCol 1 k) (fun d => hc.top1 k d) (fun d => hc.bot1 k d) (hc.norm1 k) (hc.rest 1 k) (hc.fst1 k) (hc.fst1' k) (hc.snd1 k) (hc.snd1' k)]
  refine congrArg _ ?_
  have e : ∑ d, Y p d * (2 * D k d) = 2 * ∑ d, Y p d * D k d := by
    rw [Finset.mul_sum]; exact Finset.sum_congr rfl fun d _ => by ring
  have e' : ∑ d : Fin 32, X p d * (0 : ℝ) = 0 := by simp
  rw [e, e', score]
  generalize ∑ d, Y p d * D k d = A
  generalize ∑ d, D k d * D k d = N
  ring

end Product

end Cert.Vq

end
-- ==== Proof.Vq.Block.lean ====
/- What one block's body computes: the quantized rows, the block's part of the loss, and the table of probabilities, each from a
   block of rows and the two codebooks. -/
module

public import proofs.«01_k».proof.Proof.Vq.Table

@[expose] public section

noncomputable section

namespace Cert.Vq

open Cert.KernelIdeal Cert.KernelIdeal.Gen Idealize.ShloMosaic Idealize.ShloMosaic.ValueIdx
open scoped BigOperators

/-- One round of quantization: the shifts `m` are real numbers, `e` holds the exponentials of the shifted scores and `s` their
    sums. -/
structure IsRound (m : FVec Ideal S128x1 .f32) (e : FVec Ideal S128x8192 .f32) (s : FVec Ideal S128x1 .f32) (C : Codes) (R : Rows) (M : Fin 128 → ℝ) : Prop where
  shift : IsCol m M
  weights : IsTable e fun p k => Real.exp (score C (R p) k - M p)
  total : IsCol s fun p => ∑ k, Real.exp (score C (R p) k - M p)

variable {x : Vec Ideal S128x32 .f32} {b0 b1 : Vec Ideal S1x8192x34 .f32} {t : FVec Ideal S70x16384 .f32} {X : Rows} {C D : Codes}

/-- The rows, stored in their own shape. -/
theorem rows_isRows (hx : IsRows x X) : IsRows (k0_pay4 (F := Ideal) x) X := fun p d => by
  show shapeCast S128x32 x shapeCasts_S128x32_S128x32 (ix2 p d) = _
  rw [shapeCast_self]; exact hx p d

/-- The first round. -/
theorem fst_isRound (hx : IsRows x X) (hb : IsBook (k0_pay6 (F := Ideal) b0) C) :
    ∃ M, IsRound (k0_pay8 (F := Ideal) x b0) (k0_pay9 x b0) (k0_pay10 x b0) C X M := by
  have hs : IsTable (k0_pay7 (F := Ideal) x b0) fun p k => score C (X p) k := scores_isTable (rows_isRows hx) hb
  obtain ⟨M, hM⟩ := rowMax_isCol hs
  have he : IsTable (k0_pay9 (F := Ideal) x b0) fun p k => Real.exp (score C (X p) k - M p) := expShift_isTable hs hM
  exact ⟨M, hM, he, rowSum_isCol he⟩

/-- A round's mixture of the codes is the soft quantization of its rows. -/
theorem IsRound.mix {m s : FVec Ideal S128x1 .f32} {e : FVec Ideal S128x8192 .f32} {b : FVec Ideal S8192x34 .f32} {R : Rows} {M : Fin 128 → ℝ}
    (h : IsRound m e s C R M) (hb : IsBook b C) :
    IsRows (mulf (matmul dot_S128x8192_S8192x32_S128x32_1_0_0_1_n_n none e (extractStridedSlice S8192x32 ![0, 0] b slices_S8192x34_o0_0_S8192x32)
        (constant S128x32 .f32 0x00000000#32))
      (broadcastTo S128x32 (divf (broadcast S128x1 (Scalar.ofBits .f32 0x3F800000#32 : Ideal .f32)) s) broadcasts_S128x1_S128x32))
      fun p d => quant C (R p) d := by
  intro p d
  rw [mix_isRows h.weights hb h.total (fun p => (sum_exp_pos _).ne') p d]
  exact congrArg _ (sum_exp_sub_mul C (R p) (M p) d)

/-- A round's shift plus the logarithm of its sum is the logarithm of the sum of the exponentials of its scores. -/
theorem IsRound.lse {m s : FVec Ideal S128x1 .f32} {e : FVec Ideal S128x8192 .f32} {R : Rows} {M : Fin 128 → ℝ}
    (h : IsRound m e s C R M) : IsCol (addf m (log s)) fun p => Real.log (mass C (R p)) := by
  intro p
  show m (ix2 p u0) + Ideal.log (s (ix2 p u0)) = _
  rw [h.shift, h.total, log_coe _ (sum_exp_pos _), ← EReal.coe_add]
  exact congrArg _ (add_log_sum_exp_sub C (R p) (M p))

/-- The first round's quantized rows. -/
theorem fst_quant (hx : IsRows x X) (hb : IsBook (k0_pay6 (F := Ideal) b0) C) :
    IsRows (k0_pay11 (F := Ideal) x b0) fun p d => quant C (X p) d := by
  obtain ⟨M, h⟩ := fst_isRound hx hb
  exact h.mix hb

/-- The first round's logarithms. -/
theorem fst_lse (hx : IsRows x X) (hb : IsBook (k0_pay6 (F := Ideal) b0) C) :
    IsCol (k0_pay12 (F := Ideal) x b0) fun p => Real.log (mass C (X p)) := by
  obtain ⟨M, h⟩ := fst_isRound hx hb
  exact h.lse

/-- What the first round leaves of the rows. -/
theorem resid_isRows (hx : IsRows x X) (hb : IsBook (k0_pay6 (F := Ideal) b0) C) :
    IsRows (k0_pay13 (F := Ideal) x b0) fun p d => resid C (X p) d := by
  intro p d
  show k0_pay4 (F := Ideal) x (ix2 p d) - k0_pay11 (F := Ideal) x b0 (ix2 p d) = _
  rw [rows_isRows hx p d, fst_quant hx hb p d, sub_coe]
  rfl

/-- The second round, on what the first leaves. -/
theorem snd_isRound (hx : IsRows x X) (hb : IsBook (k0_pay6 (F := Ideal) b0) C) (hb' : IsBook (k0_pay14 (F := Ideal) b1) D) :
    ∃ M, IsRound (k0_pay16 (F := Ideal) x b0 b1) (k0_pay17 x b0 b1) (k0_pay18 x b0 b1) D (fun p d => resid C (X p) d) M := by
  have hs : IsTable (k0_pay15 (F := Ideal) x b0 b1) fun p k => score D (fun d => resid C (X p) d) k := scores_isTable (resid_isRows hx hb) hb'
  obtain ⟨M, hM⟩ := rowMax_isCol hs
  have he : IsTable (k0_pay17 (F := Ideal) x b0 b1) fun p k => Real.exp (score D (fun d => resid C (X p) d) k - M p) := expShift_isTable hs hM
  exact ⟨M, hM, he, rowSum_isCol he⟩

/-- The sum of both rounds' quantized rows. -/
theorem recon_isRows (hx : IsRows x X) (hb : IsBook (k0_pay6 (F := Ideal) b0) C) (hb' : IsBook (k0_pay14 (F := Ideal) b1) D) :
    IsRows (k0_pay1 (k0_pay11 (F := Ideal) x b0) (k0_pay14 b1) (k0_pay17 x b0 b1) (k0_pay18 x b0 b1))
      fun p d => quant C (X p) d + quant D (resid C (X p)) d := by
  intro p d
  obtain ⟨M, h⟩ := snd_isRound hx hb hb'
  rw [EReal.coe_add, ← fst_quant hx hb p d]
  exact congrArg (_ + ·) (h.mix hb' p d)

/-- The sum of a block's squares, as the body takes it: over the block stored with one more axis, kept as a single number. -/
theorem sumSq_eq {v : FVec Ideal S128x32 .f32} {V : Rows} (hv : IsRows v V) :
    extractAt ![0, 0, 0] (shapeCast S1x1x1 (multiReduction .add [1, 2] S1 (shapeCast S1x128x32 (mulf v v) shapeCasts_S128x32_S1x128x32) 0x00000000#32
      reduces_S1x128x32_S1 (.inl rfl) rfl) shapeCasts_S1_S1x1x1) inpos_S1x1x1_p0_0_0 = ((∑ p, ∑ d, V p d * V p d : ℝ) : EReal) := by
  refine (Ideal.multiReduction_add_total (shapeCast S1x128x32 (mulf v v) shapeCasts_S128x32_S1x128x32) 0x00000000#32 reduces_S1x128x32_S1
    (fun b => by match b with | ⟨0, _⟩ => rfl) (.inl rfl) rfl _).trans ?_
  refine (Equiv.sum_comp (Shape.reshapeEquiv shapeCasts_S128x32_S1x128x32) (mulf v v)).trans ?_
  rw [sum_idx2, ← coe_sum]
  refine Finset.sum_congr rfl fun p _ => ?_
  rw [← coe_sum]
  refine Finset.sum_congr rfl fun d _ => ?_
  rw [mulf_apply, hv, EReal.coe_mul]

/-- The block's part of the loss: the squares of the first residual, and of the quantized rows' distance from the rows. -/
theorem loss_eq (hx : IsRows x X) (hb : IsBook (k0_pay6 (F := Ideal) b0) C) (hb' : IsBook (k0_pay14 (F := Ideal) b1) D) (i : S1x1x1.Idx) :
    k0_pay2 (k0_pay4 x) (k0_pay11 (F := Ideal) x b0) (k0_pay13 x b0) (k0_pay14 b1) (k0_pay17 x b0 b1) (k0_pay18 x b0 b1) i
      = (((∑ p, ∑ d, resid C (X p) d * resid C (X p) d)
          + ∑ p, ∑ d, (quant C (X p) d + quant D (resid C (X p)) d - X p d) * (quant C (X p) d + quant D (resid C (X p)) d - X p d) : ℝ) : EReal) := by
  have hr := resid_isRows hx hb
  have hd : IsRows (subf (k0_pay1 (k0_pay11 (F := Ideal) x b0) (k0_pay14 b1) (k0_pay17 x b0 b1) (k0_pay18 x b0 b1)) (k0_pay4 x))
      fun p d => quant C (X p) d + quant D (resid C (X p)) d - X p d := fun p d => by
    rw [subf_apply, recon_isRows hx hb hb' p d, rows_isRows hx p d, sub_coe]
  rw [EReal.coe_add, ← sumSq_eq hr, ← sumSq_eq hd]
  rfl

/-- The table of probabilities, as the body takes it: the exponentials of the augmented rows times the table of columns. -/
theorem probs_eq (x : Vec Ideal S128x32 .f32) (b0 b1 : Vec Ideal S1x8192x34 .f32) (t : FVec Ideal S70x16384 .f32) :
    k0_pay3 (k0_pay4 x) t (k0_pay12 (F := Ideal) x b0) (k0_pay13 x b0) (k0_pay16 x b0 b1) (k0_pay18 x b0 b1)
      = shapeCast S128x128x128 (exp (matmul dot_S128x70_S70x16384_S128x16384_1_0_0_1_n_n none
          (augmented (k0_pay4 (F := Ideal) x) (k0_pay13 x b0) (k0_pay12 x b0) (addf (k0_pay16 x b0 b1) (log (k0_pay18 x b0 b1)))) t
          (constant S128x16384 .f32 0x00000000#32))) shapeCasts_S128x16384_S128x128x128 := rfl

/-- The table of probabilities at a first-round column. -/
theorem probs_fst (hx : IsRows x X) (hb : IsBook (k0_pay6 (F := Ideal) b0) C) (hb' : IsBook (k0_pay14 (F := Ideal) b1) D) (ht : IsProj t C D)
    (p : Fin 128) (k : Fin 8192) (a b : Fin 128) (hab : a.val * 128 + b.val = (tableCol 0 k).val) :
    k0_pay3 (k0_pay4 x) t (k0_pay12 (F := Ideal) x b0) (k0_pay13 x b0) (k0_pay16 x b0 b1) (k0_pay18 x b0 b1) (ix3 p a b)
      = ((prob C (X p) k : ℝ) : EReal) := by
  obtain ⟨M, h⟩ := snd_isRound hx hb hb'
  rw [probs_eq]
  refine (shapeCast_apply _ shapeCasts_S128x16384_S128x128x128 (ix3 p a b) (ix2 p (tableCol 0 k)) (by
    rw [Shape.rowMajor_val_two, Shape.rowMajor_val_three]
    show p.val * 16384 + (tableCol 0 k).val = (p.val * 128 + a.val) * 128 + b.val
    omega)).trans ?_
  refine (congrArg Ideal.exp (augmented_dot_fst (rows_isRows hx) (resid_isRows hx hb) (fst_lse hx hb) h.lse ht p k)).trans ?_
  rw [exp_coe, exp_sub_log_mass]

/-- The table of probabilities at a second-round column. -/
theorem probs_snd (hx : IsRows x X) (hb : IsBook (k0_pay6 (F := Ideal) b0) C) (hb' : IsBook (k0_pay14 (F := Ideal) b1) D) (ht : IsProj t C D)
    (p : Fin 128) (k : Fin 8192) (a b : Fin 128) (hab : a.val * 128 + b.val = (tableCol 1 k).val) :
    k0_pay3 (k0_pay4 x) t (k0_pay12 (F := Ideal) x b0) (k0_pay13 x b0) (k0_pay16 x b0 b1) (k0_pay18 x b0 b1) (ix3 p a b)
      = ((prob D (resid C (X p)) k : ℝ) : EReal) := by
  obtain ⟨M, h⟩ := snd_isRound hx hb hb'
  rw [probs_eq]
  refine (shapeCast_apply _ shapeCasts_S128x16384_S128x128x128 (ix3 p a b) (ix2 p (tableCol 1 k)) (by
    rw [Shape.rowMajor_val_two, Shape.rowMajor_val_three]
    show p.val * 16384 + (tableCol 1 k).val = (p.val * 128 + a.val) * 128 + b.val
    omega)).trans ?_
  refine (congrArg Ideal.exp (augmented_dot_snd (rows_isRows hx) (resid_isRows hx hb) (fst_lse hx hb) h.lse ht p k)).trans ?_
  rw [exp_coe, exp_sub_log_mass]

end Cert.Vq

end
-- ==== Proof.Vq.Host.lean ====
/- The three arrays the host operations before the region prepare: the rows, the codebooks with their norm columns, and the
   table of columns for the probabilities; each as the composed term of the kernel's two arguments. -/
module

public import proofs.«01_k».proof.Proof.Gen.KernelIdeal.Frame
public import Idealize.ShloMosaic.Lib.StableHlo.RunRead

@[expose] public section

noncomputable section

namespace Cert.Vq

open Cert.KernelIdeal Cert.KernelIdeal.Gen Idealize.ShloMosaic Idealize.ShloMosaic.TcCoe Idealize.ShloMosaic.StableHlo

variable {F : FTy → Type} [FloatOps F]

/-- The two codebooks' squared norms. -/
def norms (cb : FVec F S2x8192x32 .f32) : FVec F S2x8192x1 .f32 :=
  broadcastInDim S2x8192x1 ![0, 1] bcast_S2x8192_S2x8192x1_0_1 (Host.reduceAdd (mulf cb cb) (constant S_ .f32 0x00000000#32) reducesTo_S2x8192x32_S2x8192_d2 h_S_)

/-- The codebooks with their two norm columns. -/
def books (cb : FVec F S2x8192x32 .f32) : FVec F S2x8192x34 .f32 :=
  concatenate S2x8192x34 2 [⟨S2x8192x32, cb⟩, ⟨S2x8192x1, extf .f32 (truncf .bf16 (norms cb) bitsLt_bf16_f32) bitsLt_bf16_f32⟩,
    ⟨S2x8192x1, subf (norms cb) (extf .f32 (truncf .bf16 (norms cb) bitsLt_bf16_f32) bitsLt_bf16_f32)⟩] concatenates_S2x8192x32_S2x8192x1_S2x8192x1_S2x8192x34_d2

/-- A block of zeros in the shape of a grouped codebook. -/
def blank : FVec F S64x128x32 .f32 := broadcastInDim S64x128x32 ![] bcast_S_S64x128x32 (constant S_ .f32 0x00000000#32)

/-- The first codebook in groups of 128 codes. -/
def grouped0 (cb : FVec F S2x8192x32 .f32) : FVec F S64x128x32 .f32 :=
  shapeCast S64x128x32 (shapeCast S8192x32 (extractStridedSlice S1x8192x32 ![0, 0, 0] cb slices_S2x8192x32_S1x8192x32_0_0_0) shapeCasts_S1x8192x32_S8192x32) shapeCasts_S8192x32_S64x128x32

/-- The second codebook in groups of 128 codes. -/
def grouped1 (cb : FVec F S2x8192x32 .f32) : FVec F S64x128x32 .f32 :=
  shapeCast S64x128x32 (shapeCast S8192x32 (extractStridedSlice S1x8192x32 ![1, 0, 0] cb slices_S2x8192x32_S1x8192x32_1_0_0) shapeCasts_S1x8192x32_S8192x32) shapeCasts_S8192x32_S64x128x32

/-- Two grouped blocks of codes, group beside group, twice over their entries. -/
def doubled (a b : FVec F S64x128x32 .f32) : FVec F S16384x32 .f32 :=
  mulf (broadcastInDim S16384x32 ![] bcast_S_S16384x32 (constant S_ .f32 0x40000000#32))
    (shapeCast S16384x32 (concatenate S64x2x128x32 1 [⟨S64x1x128x32, broadcastInDim S64x1x128x32 ![0, 2, 3] bcast_S64x128x32_S64x1x128x32_0_2_3 a⟩,
      ⟨S64x1x128x32, broadcastInDim S64x1x128x32 ![0, 2, 3] bcast_S64x128x32_S64x1x128x32_0_2_3 b⟩] concatenates_S64x1x128x32_S64x1x128x32_S64x2x128x32_d1)
      shapeCasts_S64x2x128x32_S16384x32)

/-- The squared norms of both codebooks, group beside group, in one column. -/
def normCol (cb : FVec F S2x8192x32 .f32) : FVec F S16384x1 .f32 :=
  shapeCast S16384x1 (concatenate S64x2x128 1
    [⟨S64x1x128, broadcastInDim S64x1x128 ![0, 2] bcast_S64x128_S64x1x128_0_2 (shapeCast S64x128 (shapeCast S8192x1
      (extractStridedSlice S1x8192x1 ![0, 0, 0] (norms cb) slices_S2x8192x1_S1x8192x1_0_0_0) shapeCasts_S1x8192x1_S8192x1) shapeCasts_S8192x1_S64x128)⟩,
     ⟨S64x1x128, broadcastInDim S64x1x128 ![0, 2] bcast_S64x128_S64x1x128_0_2 (shapeCast S64x128 (shapeCast S8192x1
      (extractStridedSlice S1x8192x1 ![1, 0, 0] (norms cb) slices_S2x8192x1_S1x8192x1_1_0_0) shapeCasts_S1x8192x1_S8192x1) shapeCasts_S8192x1_S64x128)⟩]
    concatenates_S64x1x128_S64x1x128_S64x2x128_d1) shapeCasts_S64x2x128_S16384x1

/-- Whether a column belongs to the first round: bit seven of its number is zero. -/
def isFst : IVec S16384x1 1 :=
  cmpi .eq (andi (Host.shrsi (broadcastInDim S16384x1 ![0] bcast_S16384_S16384x1_0 (iotaInDim S16384 32 0)) (broadcastInDim S16384x1 ![] bcast_S_S16384x1 (constantI S_ 32 7#32)))
    (broadcastInDim S16384x1 ![] bcast_S_S16384x1 (constantI S_ 32 1#32))) (broadcastInDim S16384x1 ![] bcast_S_S16384x1 (constantI S_ 32 0#32))

/-- Minus one in the columns of the first round, zero in the others. -/
def markFst : FVec F S16384x1 .f32 :=
  select isFst (broadcastInDim S16384x1 ![] bcast_S_S16384x1 (constant S_ .f32 0xBF800000#32)) (broadcastInDim S16384x1 ![] bcast_S_S16384x1 (constant S_ .f32 0x00000000#32))

/-- Minus one in the columns of the second round, zero in the others. -/
def markSnd : FVec F S16384x1 .f32 :=
  select isFst (broadcastInDim S16384x1 ![] bcast_S_S16384x1 (constant S_ .f32 0x00000000#32)) (broadcastInDim S16384x1 ![] bcast_S_S16384x1 (constant S_ .f32 0xBF800000#32))

/-- The table of columns, one row per column. -/
def columns (cb : FVec F S2x8192x32 .f32) : FVec F S16384x70 .f32 :=
  concatenate S16384x70 1 [⟨S16384x32, doubled (grouped0 cb) blank⟩, ⟨S16384x32, doubled blank (grouped1 cb)⟩,
    ⟨S16384x1, Host.negf (extf .f32 (truncf .bf16 (normCol cb) bitsLt_bf16_f32) bitsLt_bf16_f32)⟩,
    ⟨S16384x1, subf (extf .f32 (truncf .bf16 (normCol cb) bitsLt_bf16_f32) bitsLt_bf16_f32) (normCol cb)⟩,
    ⟨S16384x1, markFst⟩, ⟨S16384x1, markFst⟩, ⟨S16384x1, markSnd⟩, ⟨S16384x1, markSnd⟩]
    concatenates_S16384x32_S16384x32_S16384x1_S16384x1_S16384x1_S16384x1_S16384x1_S16384x1_S16384x70_d1

/-- A concatenation of three pieces, piece by piece. -/
theorem concat3_congr {α : Type} {s0 s1 s2 t : Shape} (a : Fin t.rank) {x x' : s0.Idx → α} {y y' : s1.Idx → α} {z z' : s2.Idx → α}
    (h : Shape.Concatenates [s0, s1, s2] t a) (hx : x = x') (hy : y = y') (hz : z = z') :
    concatenate t a [⟨s0, x⟩, ⟨s1, y⟩, ⟨s2, z⟩] h = concatenate t a [⟨s0, x'⟩, ⟨s1, y'⟩, ⟨s2, z'⟩] h := by
  subst hx hy hz; rfl

/-- A concatenation of eight pieces, piece by piece. -/
theorem concat8_congr {α : Type} {s0 s1 s2 s3 s4 s5 s6 s7 t : Shape} (a : Fin t.rank) {x0 y0 : s0.Idx → α} {x1 y1 : s1.Idx → α} {x2 y2 : s2.Idx → α}
    {x3 y3 : s3.Idx → α} {x4 y4 : s4.Idx → α} {x5 y5 : s5.Idx → α} {x6 y6 : s6.Idx → α} {x7 y7 : s7.Idx → α}
    (h : Shape.Concatenates [s0, s1, s2, s3, s4, s5, s6, s7] t a)
    (h0 : x0 = y0) (h1 : x1 = y1) (h2 : x2 = y2) (h3 : x3 = y3) (h4 : x4 = y4) (h5 : x5 = y5) (h6 : x6 = y6) (h7 : x7 = y7) :
    concatenate t a [⟨s0, x0⟩, ⟨s1, x1⟩, ⟨s2, x2⟩, ⟨s3, x3⟩, ⟨s4, x4⟩, ⟨s5, x5⟩, ⟨s6, x6⟩, ⟨s7, x7⟩] h
      = concatenate t a [⟨s0, y0⟩, ⟨s1, y1⟩, ⟨s2, y2⟩, ⟨s3, y3⟩, ⟨s4, y4⟩, ⟨s5, y5⟩, ⟨s6, y6⟩, ⟨s7, y7⟩] h := by
  subst h0 h1 h2 h3 h4 h5 h6 h7; rfl

variable (m : (ℓ : Loc nD τ sig) → Buf (Elt F) ℓ)

/-- The rows the region reads: the first argument, flattened. -/
theorem V_rows (c : Dev nD) :
    V m c main_v0 = shapeCast S16384x32 (m ((c : Thread nD τ).loc main_arg0)) shapeCasts_S16x1024x32_S16384x32 := by
  unfold V V0
  simp only [hostOps0, hostOps0_1, hostOps0_2, hostOps0_3, hostOps0_4, List.flatten_cons, List.flatten_nil, List.append_nil, List.cons_append, List.nil_append]
  after_reads_simp
  rfl

/-- The codebooks the region reads. -/
theorem V_books (c : Dev nD) : V m c main_v7 = books (m ((c : Thread nD τ).loc main_arg1)) := by
  unfold V V0
  simp only [hostOps0, hostOps0_1, hostOps0_2, hostOps0_3, hostOps0_4, List.flatten_cons, List.flatten_nil, List.append_nil, List.cons_append, List.nil_append]
  after_reads_simp
  refine concat3_congr 2 _ ?_ ?_ ?_
  · change upto _ _ _ (Proc.devRef .tc main_arg1) = _
    after_reads_simp
  · change upto _ _ _ (Proc.devRef .tc main_v5) = _
    after_reads_simp
    rfl
  · change upto _ _ _ (Proc.devRef .tc main_v6) = _
    after_reads_simp
    rfl

/-- The table of columns the region reads. -/
theorem V_columns (c : Dev nD) : V m c main_v56 = transpose S70x16384 [1, 0] (columns (m ((c : Thread nD τ).loc main_arg1))) transposes_S16384x70_S70x16384_1_0 := by
  unfold V V0
  simp only [hostOps0, hostOps0_1, hostOps0_2, hostOps0_3, hostOps0_4, List.flatten_cons, List.flatten_nil, List.append_nil, List.cons_append, List.nil_append]
  after_reads_simp
  refine congrArg (transpose S70x16384 [1, 0] · transposes_S16384x70_S70x16384_1_0) ?_
  refine concat8_congr 1 _ ?_ ?_ ?_ ?_ ?_ ?_ ?_ ?_
  · change upto _ _ _ (Proc.devRef .tc main_v20) = _
    after_reads_simp
    rfl
  · change upto _ _ _ (Proc.devRef .tc main_v26) = _
    after_reads_simp
    rfl
  · change upto _ _ _ (Proc.devRef .tc main_v53) = _
    after_reads_simp
    rfl
  · change upto _ _ _ (Proc.devRef .tc main_v54) = _
    after_reads_simp
    rfl
  · change upto _ _ _ (Proc.devRef .tc main_v48) = _
    after_reads_simp
    rfl
  · change upto _ _ _ (Proc.devRef .tc main_v48) = _
    after_reads_simp
    rfl
  · change upto _ _ _ (Proc.devRef .tc main_v52) = _
    after_reads_simp
    rfl
  · change upto _ _ _ (Proc.devRef .tc main_v52) = _
    after_reads_simp
    rfl

end Cert.Vq

end
-- ==== Proof.Vq.HostAt.lean ====
/- The prepared arrays, entry by entry, when the codebooks' entries are real numbers. -/
module

public import proofs.«01_k».proof.Proof.Vq.Host
public import proofs.«01_k».proof.Proof.Vq.Table
public import Idealize.ShloMosaic.Lib.IdealHost

@[expose] public section

noncomputable section

namespace Cert.Vq

open Cert.KernelIdeal Cert.KernelIdeal.Gen Idealize.ShloMosaic Idealize.ShloMosaic.ValueIdx
open scoped BigOperators

/-- The codebooks' argument holds the two codebooks `B`. -/
def IsCodes (cb : FVec Ideal S2x8192x32 .f32) (B : Fin 2 → Codes) : Prop := ∀ r k d, cb (ix3 r k d) = ((B r k d : ℝ) : EReal)

theorem reduces_codes : S2x8192x32.Reduces [2] S2x8192 := by decide

variable {cb : FVec Ideal S2x8192x32 .f32} {B : Fin 2 → Codes}

/-- The squared norm of a code. -/
theorem norms_apply (h : IsCodes cb B) (r : Fin 2) (k : Fin 8192) : norms cb (ix3 r k u0) = ((∑ d, B r k d * B r k d : ℝ) : EReal) := by
  unfold norms
  refine (broadcastInDim_apply ![0, 1] bcast_S2x8192_S2x8192x1_0_1 _ (ix3 r k u0) (ix2 r k) (fun a => match a with
    | ⟨0, _⟩ => rfl
    | ⟨1, _⟩ => rfl)).trans ?_
  refine (Ideal.hostReduceAdd_single reducesTo_S2x8192x32_S2x8192_d2 reduces_codes (mulf cb cb) _ (ix2 r k)).trans ?_
  have hz : (constant (F := Ideal) S_ .f32 0x00000000#32) (Shape.Idx.first h_S_) = ((0 : ℝ) : EReal) := ofBits_zero
  rw [hz, EReal.coe_zero, zero_add, ← coe_sum]
  refine Finset.sum_congr rfl fun (d : Fin 32) _ => ?_
  have e : reduces_codes.lift (ix2 r k) d = ix3 r k d := funext fun x => Fin.ext (by match x with | ⟨0, _⟩ => rfl | ⟨1, _⟩ => rfl | ⟨2, _⟩ => rfl)
  rw [e, EReal.coe_mul, ← h r k d]
  rfl

/-! ### The codebooks with their norm columns -/

/-- The pieces of the codebooks with their norm columns. -/
abbrev bookPieces (cb : FVec Ideal S2x8192x32 .f32) : List ((s : Shape) × (s.Idx → EReal)) :=
  [⟨S2x8192x32, cb⟩, ⟨S2x8192x1, norms cb⟩, ⟨S2x8192x1, fun i => norms cb i - norms cb i⟩]

/-- The codebooks with their norm columns at the ideal instance. -/
theorem books_eq (cb : FVec Ideal S2x8192x32 .f32) :
    books cb = concatenate S2x8192x34 2 (bookPieces cb) concatenates_S2x8192x32_S2x8192x1_S2x8192x1_S2x8192x34_d2 := rfl

/-- The first 32 columns are the codes. -/
theorem books_code (h : IsCodes cb B) (r : Fin 2) (k : Fin 8192) (d : Fin 32) :
    books cb (ix3 r k ⟨d.val, by omega⟩) = ((B r k d : ℝ) : EReal) :=
  (concatenate_apply_piece (t := S2x8192x34) 2 (bookPieces cb) concatenates_S2x8192x32_S2x8192x1_S2x8192x1_S2x8192x34_d2 _ 0 (show 0 < 3 by decide) S2x8192x32 cb rfl rfl 0 rfl (ix3 r k d)
    (fun b hb => match b, hb with
      | ⟨0, _⟩, _ => rfl
      | ⟨1, _⟩, _ => rfl
      | ⟨2, _⟩, hb => absurd rfl hb) (Nat.zero_add _)).trans (h r k d)

/-- Column 32 is the squared norms. -/
theorem books_norm (h : IsCodes cb B) (r : Fin 2) (k : Fin 8192) :
    books cb (ix3 r k ⟨32, by omega⟩) = ((∑ d, B r k d * B r k d : ℝ) : EReal) :=
  (concatenate_apply_piece (t := S2x8192x34) 2 (bookPieces cb) concatenates_S2x8192x32_S2x8192x1_S2x8192x1_S2x8192x34_d2 _ 1 (show 1 < 3 by decide) S2x8192x1
    (norms cb) rfl rfl 32 rfl (ix3 r k u0)
    (fun b hb => match b, hb with
      | ⟨0, _⟩, _ => rfl
      | ⟨1, _⟩, _ => rfl
      | ⟨2, _⟩, hb => absurd rfl hb) rfl).trans (norms_apply h r k)

/-- Column 33 is what rounding the norms would lose: nothing. -/
theorem books_rest (h : IsCodes cb B) (r : Fin 2) (k : Fin 8192) :
    books cb (ix3 r k ⟨33, by omega⟩) = ((0 : ℝ) : EReal) := by
  refine (concatenate_apply_piece (t := S2x8192x34) 2 (bookPieces cb) concatenates_S2x8192x32_S2x8192x1_S2x8192x1_S2x8192x34_d2 _ 2 (show 2 < 3 by decide) S2x8192x1
    (fun i => norms cb i - norms cb i) rfl rfl 33 rfl (ix3 r k u0)
    (fun b hb => match b, hb with
      | ⟨0, _⟩, _ => rfl
      | ⟨1, _⟩, _ => rfl
      | ⟨2, _⟩, hb => absurd rfl hb) rfl).trans ?_
  show norms cb (ix3 r k u0) - norms cb (ix3 r k u0) = _
  rw [norms_apply h, sub_coe, sub_self]

/-! ### The grouped codebooks -/

/-- A code's group, and its place in the group. -/
def grp (k : Fin 8192) : Fin 64 := ⟨k.val / 128, by omega⟩
/-- A code's place in its group. -/
def pos (k : Fin 8192) : Fin 128 := ⟨k.val % 128, by omega⟩

/-- A grouped codebook at a code's group and place: the code. -/
theorem grouped_apply (v : FVec Ideal S1x8192x32 .f32) (k : Fin 8192) (d : Fin 32) :
    shapeCast S64x128x32 (shapeCast S8192x32 v shapeCasts_S1x8192x32_S8192x32) shapeCasts_S8192x32_S64x128x32 (ix3 (grp k) (pos k) d) = v (ix3 u0 k d) := by
  refine (shapeCast_apply _ shapeCasts_S8192x32_S64x128x32 _ (ix2 k d) (by
    rw [Shape.rowMajor_val_two, Shape.rowMajor_val_three]
    show k.val * 32 + d.val = (k.val / 128 * 128 + k.val % 128) * 32 + d.val
    omega)).trans ?_
  exact shapeCast_apply v shapeCasts_S1x8192x32_S8192x32 _ (ix3 u0 k d) (by
    rw [Shape.rowMajor_val_two, Shape.rowMajor_val_three]
    show (0 * 8192 + k.val) * 32 + d.val = k.val * 32 + d.val
    omega)

/-- The first codebook, grouped. -/
theorem grouped0_apply (h : IsCodes cb B) (k : Fin 8192) (d : Fin 32) : grouped0 cb (ix3 (grp k) (pos k) d) = ((B 0 k d : ℝ) : EReal) := by
  rw [grouped0, grouped_apply, ← h 0 k d]
  exact extractStridedSlice_apply ![0, 0, 0] cb slices_S2x8192x32_S1x8192x32_0_0_0 (ix3 u0 k d) (ix3 0 k d) (fun a => by
    match a with
    | ⟨0, _⟩ => rfl
    | ⟨1, _⟩ => exact (Nat.zero_add _).symm
    | ⟨2, _⟩ => exact (Nat.zero_add _).symm)

/-- The second codebook, grouped. -/
theorem grouped1_apply (h : IsCodes cb B) (k : Fin 8192) (d : Fin 32) : grouped1 cb (ix3 (grp k) (pos k) d) = ((B 1 k d : ℝ) : EReal) := by
  rw [grouped1, grouped_apply, ← h 1 k d]
  exact extractStridedSlice_apply ![1, 0, 0] cb slices_S2x8192x32_S1x8192x32_1_0_0 (ix3 u0 k d) (ix3 1 k d) (fun a => by
    match a with
    | ⟨0, _⟩ => rfl
    | ⟨1, _⟩ => exact (Nat.zero_add _).symm
    | ⟨2, _⟩ => exact (Nat.zero_add _).symm)

/-- The block of zeros. -/
theorem blank_apply (i : S64x128x32.Idx) : blank (F := Ideal) i = ((0 : ℝ) : EReal) := by
  rw [blank, broadcastInDim_scalar_apply]; exact ofBits_zero

/-- A grouped block given one more axis. -/
theorem spread_apply (a : FVec Ideal S64x128x32 .f32) (g : Fin 64) (l : Fin 128) (d : Fin 32) :
    broadcastInDim S64x1x128x32 ![0, 2, 3] bcast_S64x128x32_S64x1x128x32_0_2_3 a (ix4 g u0 l d) = a (ix3 g l d) :=
  broadcastInDim_apply ![0, 2, 3] bcast_S64x128x32_S64x1x128x32_0_2_3 a (ix4 g u0 l d) (ix3 g l d) (fun x => match x with
    | ⟨0, _⟩ => rfl
    | ⟨1, _⟩ => rfl
    | ⟨2, _⟩ => rfl)

/-- Twice an entry of the two blocks laid side by side, read at a code's row. -/
theorem doubled_apply (a b : FVec Ideal S64x128x32 .f32) (r : Fin 2) (k : Fin 8192) (d : Fin 32) (v : ℝ)
    (hv : concatenate S64x2x128x32 1 [⟨S64x1x128x32, broadcastInDim S64x1x128x32 ![0, 2, 3] bcast_S64x128x32_S64x1x128x32_0_2_3 a⟩,
      ⟨S64x1x128x32, broadcastInDim S64x1x128x32 ![0, 2, 3] bcast_S64x128x32_S64x1x128x32_0_2_3 b⟩] concatenates_S64x1x128x32_S64x1x128x32_S64x2x128x32_d1
      (ix4 (grp k) r (pos k) d) = (v : EReal)) :
    doubled a b (ix2 (tableCol r k) d) = ((2 * v : ℝ) : EReal) := by
  rw [doubled, mulf_apply, broadcastInDim_scalar_apply, EReal.coe_mul]
  refine congrArg₂ (· * ·) ofBits_two ?_
  rw [← hv]
  exact shapeCast_apply _ shapeCasts_S64x2x128x32_S16384x32 _ (ix4 (grp k) r (pos k) d) (by
    rw [Shape.rowMajor_val_two, Shape.rowMajor_val_four]
    show ((k.val / 128 * 2 + r.val) * 128 + k.val % 128) * 32 + d.val = ((k.val / 128 * 2 + r.val) * 128 + k.val % 128) * 32 + d.val
    rfl)

/-- In a first-round row: twice the first block's entry. -/
theorem doubled_fst (a b : FVec Ideal S64x128x32 .f32) (k : Fin 8192) (d : Fin 32) (v : ℝ) (hv : a (ix3 (grp k) (pos k) d) = (v : EReal)) :
    doubled a b (ix2 (tableCol 0 k) d) = ((2 * v : ℝ) : EReal) := by
  refine doubled_apply a b 0 k d v ?_
  refine (concatenate_pair_apply_left (t := S64x2x128x32) (s₁ := S64x1x128x32) (s₂ := S64x1x128x32) 1 _ _
    concatenates_S64x1x128x32_S64x1x128x32_S64x2x128x32_d1 (ix4 (grp k) 0 (pos k) d) rfl (ix4 (grp k) u0 (pos k) d) (fun x => match x with
      | ⟨0, _⟩ => rfl
      | ⟨1, _⟩ => rfl
      | ⟨2, _⟩ => rfl
      | ⟨3, _⟩ => rfl)).trans ?_
  rw [spread_apply, hv]

/-- In a second-round row: twice the second block's entry. -/
theorem doubled_snd (a b : FVec Ideal S64x128x32 .f32) (k : Fin 8192) (d : Fin 32) (v : ℝ) (hv : b (ix3 (grp k) (pos k) d) = (v : EReal)) :
    doubled a b (ix2 (tableCol 1 k) d) = ((2 * v : ℝ) : EReal) := by
  refine doubled_apply a b 1 k d v ?_
  refine (concatenate_pair_apply_right (t := S64x2x128x32) (s₁ := S64x1x128x32) (s₂ := S64x1x128x32) 1 _ _
    concatenates_S64x1x128x32_S64x1x128x32_S64x2x128x32_d1 (ix4 (grp k) 1 (pos k) d) rfl rfl (ix4 (grp k) u0 (pos k) d) (fun x hx => match x, hx with
      | ⟨0, _⟩, _ => rfl
      | ⟨1, _⟩, hx => absurd rfl hx
      | ⟨2, _⟩, _ => rfl
      | ⟨3, _⟩, _ => rfl) rfl).trans ?_
  rw [spread_apply, hv]

/-! ### The norms' column -/

/-- Grouped norms given one more axis, at a code's group and place. -/
theorem spreadNorm_apply (v : FVec Ideal S1x8192x1 .f32) (k : Fin 8192) :
    broadcastInDim S64x1x128 ![0, 2] bcast_S64x128_S64x1x128_0_2 (shapeCast S64x128 (shapeCast S8192x1 v shapeCasts_S1x8192x1_S8192x1) shapeCasts_S8192x1_S64x128)
      (ix3 (grp k) u0 (pos k)) = v (ix3 u0 k u0) := by
  refine (broadcastInDim_apply ![0, 2] bcast_S64x128_S64x1x128_0_2 _ (ix3 (grp k) u0 (pos k)) (ix2 (grp k) (pos k)) (fun x => match x with
    | ⟨0, _⟩ => rfl
    | ⟨1, _⟩ => rfl)).trans ?_
  refine (shapeCast_apply _ shapeCasts_S8192x1_S64x128 _ (ix2 k u0) (by
    rw [Shape.rowMajor_val_two, Shape.rowMajor_val_two]
    show k.val * 1 + 0 = k.val / 128 * 128 + k.val % 128
    omega)).trans ?_
  exact shapeCast_apply v shapeCasts_S1x8192x1_S8192x1 _ (ix3 u0 k u0) (by
    rw [Shape.rowMajor_val_two, Shape.rowMajor_val_three]
    show (0 * 8192 + k.val) * 1 + 0 = k.val * 1 + 0
    omega)

/-- The first codebook's part of a column per code and codebook. -/
theorem normSlice0_apply (v : FVec Ideal S2x8192x1 .f32) (k : Fin 8192) :
    extractStridedSlice S1x8192x1 ![0, 0, 0] v slices_S2x8192x1_S1x8192x1_0_0_0 (ix3 u0 k u0) = v (ix3 0 k u0) :=
  extractStridedSlice_apply ![0, 0, 0] v slices_S2x8192x1_S1x8192x1_0_0_0 (ix3 u0 k u0) (ix3 0 k u0) (fun a => by
    match a with
    | ⟨0, _⟩ => rfl
    | ⟨1, _⟩ => exact (Nat.zero_add _).symm
    | ⟨2, _⟩ => rfl)

/-- The second codebook's part of a column per code and codebook. -/
theorem normSlice1_apply (v : FVec Ideal S2x8192x1 .f32) (k : Fin 8192) :
    extractStridedSlice S1x8192x1 ![1, 0, 0] v slices_S2x8192x1_S1x8192x1_1_0_0 (ix3 u0 k u0) = v (ix3 1 k u0) :=
  extractStridedSlice_apply ![1, 0, 0] v slices_S2x8192x1_S1x8192x1_1_0_0 (ix3 u0 k u0) (ix3 1 k u0) (fun a => by
    match a with
    | ⟨0, _⟩ => rfl
    | ⟨1, _⟩ => exact (Nat.zero_add _).symm
    | ⟨2, _⟩ => rfl)

/-- The norms' column at a code's row: the squared norm of that round's code. -/
theorem normCol_apply (h : IsCodes cb B) (r : Fin 2) (k : Fin 8192) : normCol cb (ix2 (tableCol r k) u0) = ((∑ d, B r k d * B r k d : ℝ) : EReal) := by
  unfold normCol
  refine (shapeCast_apply _ shapeCasts_S64x2x128_S16384x1 _ (ix3 (grp k) r (pos k)) (by
    rw [Shape.rowMajor_val_two, Shape.rowMajor_val_three]
    show (k.val / 128 * 2 + r.val) * 128 + k.val % 128 = ((k.val / 128 * 2 + r.val) * 128 + k.val % 128) * 1 + 0
    omega)).trans ?_
  rw [← norms_apply h r k]
  match r with
  | ⟨0, _⟩ =>
    refine (concatenate_pair_apply_left (t := S64x2x128) (s₁ := S64x1x128) (s₂ := S64x1x128) 1 _ _
      concatenates_S64x1x128_S64x1x128_S64x2x128_d1 (ix3 (grp k) 0 (pos k)) rfl (ix3 (grp k) u0 (pos k)) (fun x => match x with
        | ⟨0, _⟩ => rfl
        | ⟨1, _⟩ => rfl
        | ⟨2, _⟩ => rfl)).trans ?_
    rw [spreadNorm_apply]
    exact normSlice0_apply (norms cb) k
  | ⟨1, _⟩ =>
    refine (concatenate_pair_apply_right (t := S64x2x128) (s₁ := S64x1x128) (s₂ := S64x1x128) 1 _ _
      concatenates_S64x1x128_S64x1x128_S64x2x128_d1 (ix3 (grp k) 1 (pos k)) rfl rfl (ix3 (grp k) u0 (pos k)) (fun x hx => match x, hx with
        | ⟨0, _⟩, _ => rfl
        | ⟨1, _⟩, hx => absurd rfl hx
        | ⟨2, _⟩, _ => rfl) rfl).trans ?_
    rw [spreadNorm_apply]
    exact normSlice1_apply (norms cb) k

/-! ### The rounds' marks -/

/-- Bit seven of a column's number, for every column. -/
theorem bit_seven : ∀ n : Fin 16384, IntOp.cmpi .eq (IntOp.andi (IntOp.shrsi .host (BitVec.ofNat 32 n.val) 7#32) 1#32) 0#32
    = if n.val / 128 % 2 = 0 then 1#1 else 0#1 := by decide +kernel

/-- A column belongs to the first round exactly when bit seven of its number is zero. -/
theorem isFst_apply (r : Fin 2) (k : Fin 8192) : isFst (ix2 (tableCol r k) u0) = if r = 0 then 1#1 else 0#1 := by
  have hb : ∀ v : BitVec 32, (broadcastInDim S16384x1 ![] bcast_S_S16384x1 (constantI S_ 32 v)) (ix2 (tableCol r k) u0) = v := fun v => by
    rw [broadcastInDim_scalar_apply]; rfl
  have hi : broadcastInDim S16384x1 ![0] bcast_S16384_S16384x1_0 (iotaInDim S16384 32 0) (ix2 (tableCol r k) u0) = BitVec.ofNat 32 (tableCol r k).val :=
    broadcastInDim_apply ![0] bcast_S16384_S16384x1_0 _ (ix2 (tableCol r k) u0) (ix1 (tableCol r k)) (fun x => match x with
      | ⟨0, _⟩ => rfl)
  show IntOp.cmpi .eq (IntOp.andi (IntOp.shrsi .host (broadcastInDim S16384x1 ![0] bcast_S16384_S16384x1_0 (iotaInDim S16384 32 0) (ix2 (tableCol r k) u0))
    (broadcastInDim S16384x1 ![] bcast_S_S16384x1 (constantI S_ 32 7#32) (ix2 (tableCol r k) u0))) (broadcastInDim S16384x1 ![] bcast_S_S16384x1 (constantI S_ 32 1#32) (ix2 (tableCol r k) u0)))
    (broadcastInDim S16384x1 ![] bcast_S_S16384x1 (constantI S_ 32 0#32) (ix2 (tableCol r k) u0)) = _
  rw [hb, hb, hb, hi, bit_seven]
  have e : (tableCol r k).val / 128 % 2 = r.val := by
    show ((k.val / 128 * 2 + r.val) * 128 + k.val % 128) / 128 % 2 = r.val
    omega
  rw [e]
  match r with
  | ⟨0, _⟩ => rfl
  | ⟨1, _⟩ => rfl

/-- A constant column. -/
theorem const_apply (v : BitVec 32) (i : S16384x1.Idx) :
    broadcastInDim S16384x1 ![] bcast_S_S16384x1 (constant (F := Ideal) S_ .f32 v) i = (Scalar.ofBits .f32 v : Ideal .f32) := by
  rw [broadcastInDim_scalar_apply]; rfl

/-- The first round's mark. -/
theorem markFst_apply (r : Fin 2) (k : Fin 8192) : markFst (F := Ideal) (ix2 (tableCol r k) u0) = ((if r = 0 then -1 else 0 : ℝ) : EReal) := by
  rw [markFst, select_apply, isFst_apply, const_apply, const_apply]
  match r with
  | ⟨0, _⟩ => exact ofBits_neg_one
  | ⟨1, _⟩ => exact ofBits_zero

/-- The second round's mark. -/
theorem markSnd_apply (r : Fin 2) (k : Fin 8192) : markSnd (F := Ideal) (ix2 (tableCol r k) u0) = ((if r = 0 then 0 else -1 : ℝ) : EReal) := by
  rw [markSnd, select_apply, isFst_apply, const_apply, const_apply]
  match r with
  | ⟨0, _⟩ => exact ofBits_zero
  | ⟨1, _⟩ => exact ofBits_neg_one

/-! ### The table -/

/-- The transposed table at a row and a column. -/
theorem turned_apply (v : FVec Ideal S16384x70 .f32) (d : Fin 70) (j : Fin 16384) :
    transpose S70x16384 [1, 0] v transposes_S16384x70_S70x16384_1_0 (ix2 d j) = v (ix2 j d) :=
  transpose_apply [1, 0] v transposes_S16384x70_S70x16384_1_0 (ix2 d j) (ix2 j d) (fun b => match b with
    | ⟨0, _⟩ => rfl
    | ⟨1, _⟩ => rfl)

/-- The prepared table holds the two codebooks. -/
theorem columns_isProj (h : IsCodes cb B) : IsProj (transpose S70x16384 [1, 0] (columns cb) transposes_S16384x70_S70x16384_1_0) (B 0) (B 1) := by
  have hn : ∀ (r : Fin 2) (k : Fin 8192), Host.negf (extf .f32 (truncf .bf16 (normCol cb) bitsLt_bf16_f32) bitsLt_bf16_f32) (ix2 (tableCol r k) u0)
      = ((-∑ d, B r k d * B r k d : ℝ) : EReal) := fun r k => by
    show -(normCol cb (ix2 (tableCol r k) u0)) = _
    rw [normCol_apply h, EReal.coe_neg]
  have hz : ∀ (r : Fin 2) (k : Fin 8192), subf (extf .f32 (truncf .bf16 (normCol cb) bitsLt_bf16_f32) bitsLt_bf16_f32) (normCol cb) (ix2 (tableCol r k) u0)
      = ((0 : ℝ) : EReal) := fun r k => by
    show normCol cb (ix2 (tableCol r k) u0) - normCol cb (ix2 (tableCol r k) u0) = _
    rw [normCol_apply h, sub_coe, sub_self]
  constructor
  · intro k d; rw [turned_apply]; exact (pieces_fst (n := 16384) _ _ _ _ _ _ _ _ _ _ d).trans (doubled_fst _ _ k d _ (grouped0_apply h k d))
  · intro k d; rw [turned_apply]
    refine (pieces_fst (n := 16384) _ _ _ _ _ _ _ _ _ _ d).trans ((doubled_snd _ _ k d _ (blank_apply _)).trans ?_)
    rw [mul_zero]
  · intro k d; rw [turned_apply]
    refine (pieces_snd (n := 16384) _ _ _ _ _ _ _ _ _ _ d).trans ((doubled_fst _ _ k d _ (blank_apply _)).trans ?_)
    rw [mul_zero]
  · intro k d; rw [turned_apply]; exact (pieces_snd (n := 16384) _ _ _ _ _ _ _ _ _ _ d).trans (doubled_snd _ _ k d _ (grouped1_apply h k d))
  · intro k; rw [turned_apply]; exact (pieces_64 (n := 16384) _ _ _ _ _ _ _ _ _ _).trans (hn 0 k)
  · intro k; rw [turned_apply]; exact (pieces_64 (n := 16384) _ _ _ _ _ _ _ _ _ _).trans (hn 1 k)
  · intro r k; rw [turned_apply]; exact (pieces_65 (n := 16384) _ _ _ _ _ _ _ _ _ _).trans (hz r k)
  · intro k; rw [turned_apply]; exact (pieces_66 (n := 16384) _ _ _ _ _ _ _ _ _ _).trans (markFst_apply 0 k)
  · intro k; rw [turned_apply]; exact (pieces_66 (n := 16384) _ _ _ _ _ _ _ _ _ _).trans (markFst_apply 1 k)
  · intro k; rw [turned_apply]; exact (pieces_67 (n := 16384) _ _ _ _ _ _ _ _ _ _).trans (markFst_apply 0 k)
  · intro k; rw [turned_apply]; exact (pieces_67 (n := 16384) _ _ _ _ _ _ _ _ _ _).trans (markFst_apply 1 k)
  · intro k; rw [turned_apply]; exact (pieces_68 (n := 16384) _ _ _ _ _ _ _ _ _ _).trans (markSnd_apply 0 k)
  · intro k; rw [turned_apply]; exact (pieces_68 (n := 16384) _ _ _ _ _ _ _ _ _ _).trans (markSnd_apply 1 k)
  · intro k; rw [turned_apply]; exact (pieces_69 (n := 16384) _ _ _ _ _ _ _ _ _ _).trans (markSnd_apply 0 k)
  · intro k; rw [turned_apply]; exact (pieces_69 (n := 16384) _ _ _ _ _ _ _ _ _ _).trans (markSnd_apply 1 k)

end Cert.Vq

end
-- ==== Proof.Vq.Loss.lean ====
/- Both rounds together, over the real numbers: what a row is quantized to, its part of the loss, and the loss of the batch. -/
module

public import proofs.«01_k».proof.Proof.Vq.Softmax
public import Mathlib.Algebra.BigOperators.Fin

@[expose] public section

noncomputable section

namespace Cert.Vq

open scoped BigOperators

/-- The sum of both rounds' quantizations of a row. -/
def recon (B : Fin 2 → Fin 8192 → Fin 32 → ℝ) (x : Fin 32 → ℝ) (d : Fin 32) : ℝ := quant (B 0) x d + quant (B 1) (resid (B 0) x) d

/-- A row's part of the loss: the squares of its first residual, and of its distance from both rounds' quantizations. -/
def rowLoss (B : Fin 2 → Fin 8192 → Fin 32 → ℝ) (x : Fin 32 → ℝ) : ℝ :=
  ∑ d, resid (B 0) x d * resid (B 0) x d + ∑ d, (recon B x d - x d) * (recon B x d - x d)

/-- The softmax weights of a row in a round: the first round's of the row, the second's of the first residual. -/
def roundProb (B : Fin 2 → Fin 8192 → Fin 32 → ℝ) (r : Fin 2) (x : Fin 32 → ℝ) (k : Fin 8192) : ℝ :=
  if r = 0 then prob (B 0) x k else prob (B 1) (resid (B 0) x) k

/-- The sum of the squares of what a round leaves of a batch of rows. -/
def residSq (C : Fin 8192 → Fin 32 → ℝ) (X : Fin 16 → Fin 1024 → Fin 32 → ℝ) : ℝ := ∑ b, ∑ t, ∑ d, resid C (X b t) d * resid C (X b t) d

/-- The distance of both rounds' quantization from the row is what the second round leaves, negated. -/
theorem recon_sub (B : Fin 2 → Fin 8192 → Fin 32 → ℝ) (x : Fin 32 → ℝ) (d : Fin 32) :
    recon B x d - x d = -resid (B 1) (resid (B 0) x) d := by
  simp only [recon, resid]; ring

/-- A row's part of the loss is the squares of what the two rounds leave of it. -/
theorem rowLoss_eq (B : Fin 2 → Fin 8192 → Fin 32 → ℝ) (x : Fin 32 → ℝ) :
    rowLoss B x = ∑ d, resid (B 0) x d * resid (B 0) x d
      + ∑ d, resid (B 1) (resid (B 0) x) d * resid (B 1) (resid (B 0) x) d := by
  simp only [rowLoss, recon_sub, neg_mul_neg]

/-- The rows' parts of the loss add up to both rounds' sums of squares. -/
theorem sum_rowLoss (B : Fin 2 → Fin 8192 → Fin 32 → ℝ) (X : Fin 16 → Fin 1024 → Fin 32 → ℝ) :
    ∑ b, ∑ t, rowLoss B (X b t) = residSq (B 0) X + residSq (B 1) fun b t => resid (B 0) (X b t) := by
  simp only [rowLoss_eq, residSq, Finset.sum_add_distrib]

/-- The two rounds' losses, each a mean with a quarter of itself, are one scaled sum. -/
theorem loss_scale (r s : ℝ) :
    0 + (r / 524288 + 1 / 4 * (r / 524288)) + (s / 524288 + 1 / 4 * (s / 524288)) = (r + s) * (5 / 4 / 524288) := by ring

/-- A sum over blocks of 128 rows is the sum over 16 batches of 1024 rows. -/
theorem sum_blocks (f : Fin 16384 → ℝ) :
    ∑ i : Fin 128, ∑ p : Fin 128, f ⟨i.val * 128 + p.val, by omega⟩ = ∑ b : Fin 16, ∑ t : Fin 1024, f ⟨b.val * 1024 + t.val, by omega⟩ := by
  have h : ∀ (m n : ℕ) (hmn : m * n = 16384), ∑ i : Fin m, ∑ p : Fin n, f ⟨i.val * n + p.val, by
      calc i.val * n + p.val < i.val * n + n := by omega
        _ = (i.val + 1) * n := by ring
        _ ≤ m * n := Nat.mul_le_mul_right _ i.isLt
        _ = 16384 := hmn⟩ = ∑ j, f j := by
    intro m n hmn
    rw [← Fintype.sum_prod_type', ← (finProdFinEquiv.trans (finCongr hmn)).sum_comp]
    refine Finset.sum_congr rfl fun x _ => congrArg f (Fin.ext ?_)
    show x.1.val * n + x.2.val = x.2.val + n * x.1.val
    ring
  exact (h 128 128 rfl).trans (h 16 1024 rfl).symm

end Cert.Vq

end
-- ==== Proof.Vq.Arrays.lean ====
/- What the region leaves in its three result arrays: each block's values placed over the whole arrays. -/
module

public import proofs.«01_k».proof.Proof.Gen.KernelIdeal.Frame
public import proofs.«01_k».proof.Proof.Gen.KernelIdeal.Run
public import proofs.«01_k».proof.Proof.Vq.Block
public import proofs.«01_k».proof.Proof.Vq.HostAt
public import proofs.«01_k».proof.Proof.Vq.Loss
public import Idealize.ShloMosaic.Lib.Pipeline.ValueKit

@[expose] public section

noncomputable section

namespace Cert.Vq

open Cert.KernelIdeal Cert.KernelIdeal.Gen Idealize.ShloMosaic.TcCoe Idealize.ShloMosaic.ValueIdx
open Idealize.ShloMosaic hiding ix2 ix3
open scoped BigOperators

/-! ### What a point leaves in its blocks -/

section Point

variable {x0 : Vec Ideal S128x32 .f32} {cb : FVec Ideal S2x8192x32 .f32} {x2 : Vec Ideal S70x16384 .f32} {X : Rows} {B : Fin 2 → Codes}

theorem zeros2 : (![0, 0] : Fin 2 → Nat) = fun _ => 0 := by decide
theorem zeros3 : (![0, 0, 0] : Fin 3 → Nat) = fun _ => 0 := by decide

/-- The first codebook's payload drops a leading axis. -/
theorem k0_pay6_eq (b : Vec Ideal S1x8192x34 .f32) : k0_pay6 (F := Ideal) b = shapeCast S8192x34 b shapeCasts_S1x8192x34_S8192x34 := rfl

/-- The second codebook's payload drops a leading axis. -/
theorem k0_pay14_eq (b : Vec Ideal S1x8192x34 .f32) : k0_pay14 (F := Ideal) b = shapeCast S8192x34 b shapeCasts_S1x8192x34_S8192x34 := rfl

/-- The first codebook with its norms, as a point loads it. -/
theorem fst_isBook (h : IsCodes cb B) : IsBook (k0_pay6 (F := Ideal) (View.ld (books cb) r0_2)) (B 0) := by
  have e : ∀ (k : Fin 8192) (d : Fin 34), k0_pay6 (F := Ideal) (View.ld (books cb) r0_2) (ix2 k d) = books cb (ix3 0 k d) := by
    intro k d
    refine (congrFun (k0_pay6_eq _) _).trans ?_
    refine (shapeCast_apply _ shapeCasts_S1x8192x34_S8192x34 (ix2 k d) (ix3 u0 k d) (by
      rw [Shape.rowMajor_val_two, Shape.rowMajor_val_three]
      show (0 * 8192 + k.val) * 34 + d.val = k.val * 34 + d.val
      omega)).trans ?_
    refine congrArg (books cb) (funext fun x => Fin.ext ?_)
    match x with
    | ⟨0, _⟩ => rfl
    | ⟨1, _⟩ => show 0 + 1 * k.val = k.val; omega
    | ⟨2, _⟩ => show 0 + 1 * d.val = d.val; omega
  exact ⟨fun k d => (e k _).trans (books_code h 0 k d), fun k => (e k _).trans (books_norm h 0 k), fun k => (e k _).trans (books_rest h 0 k)⟩

/-- The second codebook with its norms, as a point loads it. -/
theorem snd_isBook (h : IsCodes cb B) : IsBook (k0_pay14 (F := Ideal) (View.ld (books cb) r0_3)) (B 1) := by
  have e : ∀ (k : Fin 8192) (d : Fin 34), k0_pay14 (F := Ideal) (View.ld (books cb) r0_3) (ix2 k d) = books cb (ix3 1 k d) := by
    intro k d
    refine (congrFun (k0_pay14_eq _) _).trans ?_
    refine (shapeCast_apply _ shapeCasts_S1x8192x34_S8192x34 (ix2 k d) (ix3 u0 k d) (by
      rw [Shape.rowMajor_val_two, Shape.rowMajor_val_three]
      show (0 * 8192 + k.val) * 34 + d.val = k.val * 34 + d.val
      omega)).trans ?_
    refine congrArg (books cb) (funext fun x => Fin.ext ?_)
    match x with
    | ⟨0, _⟩ => rfl
    | ⟨1, _⟩ => show 0 + 1 * k.val = k.val; omega
    | ⟨2, _⟩ => show 0 + 1 * d.val = d.val; omega
  exact ⟨fun k d => (e k _).trans (books_code h 1 k d), fun k => (e k _).trans (books_norm h 1 k), fun k => (e k _).trans (books_rest h 1 k)⟩

/-- The block of rows, as a point loads it. -/
theorem ld_isRows (hx : IsRows x0 X) : IsRows (View.ld x0 r0_0) X := by
  rw [View.ld_unit_zero zeros2]; exact hx

/-- A point's block of quantized rows. -/
theorem out_recon (hx : IsRows x0 X) (h : IsCodes cb B) (p : Fin 128) (d : Fin 32) :
    out0_4 x0 (books cb) x2 (ix2 p d) = ((recon B (X p) d : ℝ) : EReal) := by
  unfold out0_4
  rw [View.canon_unit_zero zeros2]
  exact recon_isRows (ld_isRows hx) (fst_isBook h) (snd_isBook h) p d

/-- A point's part of the loss. -/
theorem out_loss (hx : IsRows x0 X) (h : IsCodes cb B) (i : S1x1x1.Idx) :
    out0_5 x0 (books cb) x2 i = ((∑ p, rowLoss B (X p) : ℝ) : EReal) := by
  unfold out0_5
  rw [View.canon_unit_zero zeros3]
  refine (loss_eq (ld_isRows hx) (fst_isBook h) (snd_isBook h) i).trans ?_
  refine congrArg _ ?_
  simp only [rowLoss, Finset.sum_add_distrib]
  rfl

/-- A point's table of probabilities, at a round and a code. -/
theorem out_probs (hx : IsRows x0 X) (h : IsCodes cb B) (ht : IsProj x2 (B 0) (B 1)) (p a b : Fin 128) (r : Fin 2) (k : Fin 8192)
    (hab : a.val * 128 + b.val = (tableCol r k).val) :
    out0_3 x0 (books cb) x2 (ix3 p a b) = ((roundProb B r (X p) k : ℝ) : EReal) := by
  unfold out0_3
  rw [View.canon_unit_zero zeros3, View.ld_unit_zero (S := S70x16384) zeros2]
  have e5 : k0_pay5 (F := Ideal) x2 = x2 := shapeCast_self _ _
  rw [e5]
  match r, hab with
  | ⟨0, _⟩, hab => exact probs_fst (ld_isRows hx) (fst_isBook h) (snd_isBook h) ht p k a b hab
  | ⟨1, _⟩, hab => exact probs_snd (ld_isRows hx) (fst_isBook h) (snd_isBook h) ht p k a b hab

end Point

/-! ### The arrays -/

/-- A row of a block, as a row of the whole array. -/
def rowOf (t p : Fin 128) : Fin 16384 := ⟨t.val * 128 + p.val, by omega⟩

/-- The blocks' places, at every point. -/
theorem places : ∀ t : Fin cfg0.N, win0_0.index t = ![t.val, 0] ∧ win0_1.index t = ![0, 0, 0] ∧ win0_2.index t = ![0, 0]
    ∧ win0_3.index t = ![t.val, 0, 0] ∧ win0_4.index t = ![t.val, 0] ∧ win0_5.index t = ![t.val, 0, 0] :=
  (by decide +kernel : ∀ t : Fin grid0.N, _)

variable (m : (ℓ : Loc nD τ sig) → Buf (Elt Ideal) ℓ) (c : Dev nD)
variable {X : Fin 16384 → Fin 32 → ℝ} {B : Fin 2 → Codes}

/-- The flattened first argument holds the rows `X`. -/
def HasRows (X : Fin 16384 → Fin 32 → ℝ) : Prop := ∀ n d, V m c main_v0 (ix2 n d) = ((X n d : ℝ) : EReal)

/-- The second argument holds the codebooks `B`. -/
def HasCodes (B : Fin 2 → Codes) : Prop := IsCodes (m ((c : Thread nD τ).loc main_arg1)) B

variable {m c}

/-- A point's block of rows. -/
theorem iblk_rows (hX : HasRows m c X) (t : Fin cfg0.N) : IsRows (iblk m c 0 t) fun p d => X (rowOf t p) d := by
  intro p d
  rw [← hX (rowOf t p) d]
  refine congrArg (V m c main_v0) (funext fun x => Fin.ext ?_)
  have e := (places t).1
  match x with
  | ⟨0, _⟩ =>
    blk_simp [e]
    rfl
  | ⟨1, _⟩ =>
    blk_simp [e]

/-- A point's block of codebooks is all of them. -/
theorem iblk_books (t : Fin cfg0.N) : (iblk m c 1 t : FVec Ideal S2x8192x34 .f32) = books (F := Ideal) (m ((c : Thread nD τ).loc main_arg1)) := by
  rw [← V_books]
  funext y
  refine congrArg (V m c main_v7) (funext fun x => Fin.ext ?_)
  have e := (places t).2.1
  match x with
  | ⟨0, _⟩ => blk_simp [e]
  | ⟨1, _⟩ => blk_simp [e]
  | ⟨2, _⟩ => blk_simp [e]

/-- A point's block of the table of columns is all of it. -/
theorem iblk_columns (t : Fin cfg0.N) :
    (iblk m c 2 t : FVec Ideal S70x16384 .f32) = transpose S70x16384 [1, 0] (columns (F := Ideal) (m ((c : Thread nD τ).loc main_arg1))) transposes_S16384x70_S70x16384_1_0 := by
  rw [← V_columns]
  funext y
  refine congrArg (V m c main_v56) (funext fun x => Fin.ext ?_)
  have e := (places t).2.2.1
  match x with
  | ⟨0, _⟩ => blk_simp [e]
  | ⟨1, _⟩ => blk_simp [e]

/-- The array of quantized rows after the region. -/
theorem reg_recon (hX : HasRows m c X) (hB : HasCodes m c B) :
    Value.reg_main_v57_1 m c = fun i => ((recon B (X (i 0)) (i 1) : ℝ) : EReal) := by
  unfold Value.reg_main_v57_1
  refine (dats m 0 c).arrAt_eq_of_covers 4 _ (by decide +kernel) fun t hf y => ?_
  have e := (places t).2.2.2.2.1
  have e0 : ((win0_4.blk t).view.emb y 0 : Fin 16384) = rowOf t (y 0) := Fin.ext (by blk_simp [e]; rfl)
  have e1 : ((win0_4.blk t).view.emb y 1 : Fin 32) = y 1 := Fin.ext (by blk_simp [e])
  blk_simp
  rw [after0_4, iblk_books, e0, e1]
  refine (congrArg _ (ValueIdx.eq_ix2 y)).trans (out_recon (iblk_rows hX t) hB (y 0) (y 1))

/-- The array of the points' parts of the loss after the region. -/
theorem reg_loss (hX : HasRows m c X) (hB : HasCodes m c B) :
    Value.reg_main_v57_2 m c = fun i => ((∑ p, rowLoss B (X (rowOf (i 0) p)) : ℝ) : EReal) := by
  unfold Value.reg_main_v57_2
  refine (dats m 0 c).arrAt_eq_of_covers 5 _ (by decide +kernel) fun t hf y => ?_
  have e := (places t).2.2.2.2.2
  have e0 : ((win0_5.blk t).view.emb y 0 : Fin 128) = t := Fin.ext (by blk_simp [e])
  blk_simp
  rw [after0_5, iblk_books, e0]
  exact out_loss (iblk_rows hX t) hB y

/-- The array of probabilities after the region, at a row, a round and a code. -/
theorem reg_probs (hX : HasRows m c X) (hB : HasCodes m c B) (n : Fin 16384) (a b : Fin 128) (r : Fin 2) (k : Fin 8192)
    (hab : a.val * 128 + b.val = (tableCol r k).val) :
    Value.reg_main_v57_0 m c (ix3 n a b) = ((roundProb B r (X n) k : ℝ) : EReal) := by
  unfold Value.reg_main_v57_0
  have key := (dats m 0 c).arrAt_forall_of_covers 3
    (fun i v => ∀ r k, (i 1).val * 128 + (i 2).val = (tableCol r k).val → v = ((roundProb B r (X (i 0)) k : ℝ) : EReal))
    (by decide +kernel) (fun t hf y r k hy => ?_) (ix3 n a b)
  · exact key r k hab
  · have e := (places t).2.2.2.1
    have e0 : ((win0_3.blk t).view.emb y 0 : Fin 16384) = rowOf t (y 0) := Fin.ext (by blk_simp [e]; rfl)
    blk_simp at hy ⊢
    rw [after0_3, iblk_books, iblk_columns, e0]
    rw [e] at hy
    exact (congrArg _ (ValueIdx.eq_ix3 y)).trans (out_probs (iblk_rows hX t) hB (columns_isProj hB) (y 0) (y 1) (y 2) r k (by simpa using hy))

/-! ### The rows, flattened -/

/-- The first argument's entries, its two leading axes flattened. -/
def flat (A : Fin 16 → Fin 1024 → Fin 32 → ℝ) (n : Fin 16384) : Fin 32 → ℝ := A ⟨n.val / 1024, by omega⟩ ⟨n.val % 1024, by omega⟩

/-- The array of rows is the first argument, flattened. -/
theorem hasRows {A : Fin 16 → Fin 1024 → Fin 32 → ℝ}
    (h : ∀ b t d, m ((c : Thread nD τ).loc main_arg0) (ix3 b t d) = ((A b t d : ℝ) : EReal)) : HasRows m c (flat A) := by
  intro n d
  rw [V_rows]
  refine (shapeCast_apply _ shapeCasts_S16x1024x32_S16384x32 (ix2 n d) (ix3 ⟨n.val / 1024, by omega⟩ ⟨n.val % 1024, by omega⟩ d) (by
    rw [Shape.rowMajor_val_two, Shape.rowMajor_val_three]
    show (n.val / 1024 * 1024 + n.val % 1024) * 32 + d.val = n.val * 32 + d.val
    omega)).trans ?_
  exact h _ _ d

end Cert.Vq

end
-- ==== Proof.Vq.Round.lean ====
/- The reference's first round: the softmax weights, the soft quantization and the two mean squares, as real numbers. -/
module

public import proofs.«01_k».proof.Proof.Gen.ReferenceIdeal.Read
public import proofs.«01_k».proof.Proof.Vq.Stage
public import proofs.«01_k».proof.Proof.Vq.Loss
public import Idealize.ShloMosaic.PureOps.Reduce
public import Idealize.ShloMosaic.Lib.Pointwise.Index

@[expose] public section

noncomputable section

namespace Cert.Vq.Ref

open Cert.ReferenceIdeal Cert.ReferenceIdeal.Gen Cert.ReferenceIdeal.Read Idealize.ShloMosaic.ValueIdx
open Idealize.ShloMosaic hiding ix1 ix2 ix3 eq_ix1 eq_ix2 eq_ix3
open scoped BigOperators

/-- A batch of real rows. -/
abbrev Batch := Fin 16 → Fin 1024 → Fin 32 → ℝ

/-- An array holds the rows `X`. -/
def IsBatch (x : FVec Ideal S16x1024x32 .f32) (X : Batch) : Prop := ∀ b t d, x (ix3 b t d) = ((X b t d : ℝ) : EReal)

/-- The first of the two codebooks is `C`. -/
def IsFirst (x1 : FVec Ideal S2x8192x32 .f32) (C : Codes) : Prop := ∀ k d, val_main_v2 (F := Ideal) x1 (ix2 k d) = ((C k d : ℝ) : EReal)

variable {x0 : FVec Ideal S16x1024x32 .f32} {x1 : FVec Ideal S2x8192x32 .f32} {X : Batch} {C : Codes}

/-- The squared norm of a row. -/
theorem v4_eq (hx : IsBatch x0 X) (b : Fin 16) (t : Fin 1024) :
    val_main_v4 (F := Ideal) x0 (ix2 b t) = ((∑ d, X b t d * X b t d : ℝ) : EReal) := by
  rw [val_main_v4_apply]
  have hz : val_main_cst_0 (F := Ideal) (Shape.Idx.first h_S_) = ((0 : ℝ) : EReal) := ofBits_zero
  rw [hz, EReal.coe_zero, zero_add, ← coe_sum]
  refine Finset.sum_congr rfl fun d _ => ?_
  have e : idx_main_v4 (ix2 b t) d = ix3 b t d := eq_ix3 _
  rw [e, val_main_v3_apply, hx b t d, EReal.coe_mul]
  rfl

/-- A row's product with a code. -/
theorem v6_eq (hx : IsBatch x0 X) (hc : IsFirst x1 C) (b : Fin 16) (t : Fin 1024) (k : Fin 8192) :
    val_main_v6 (F := Ideal) x0 x1 (ix3 b t k) = ((∑ d, X b t d * C k d : ℝ) : EReal) := by
  rw [val_main_v6_apply, ← coe_sum]
  refine Finset.sum_congr rfl fun d _ => ?_
  have e : lidx_main_v6 (ix3 b t k) d = ix3 b t d := eq_ix3 _
  have e' : ridx_main_v6 (ix3 b t k) d = ix2 k d := eq_ix2 _
  rw [e, e', hx b t d, hc k d, EReal.coe_mul]

/-- The squared norm of a code. -/
theorem v12_eq (hc : IsFirst x1 C) (k : Fin 8192) :
    val_main_v12 (F := Ideal) x1 (ix1 k) = ((∑ d, C k d * C k d : ℝ) : EReal) := by
  rw [val_main_v12_apply]
  have hz : val_main_cst_2 (F := Ideal) (Shape.Idx.first h_S_) = ((0 : ℝ) : EReal) := ofBits_zero
  rw [hz, EReal.coe_zero, zero_add, ← coe_sum]
  refine Finset.sum_congr rfl fun d _ => ?_
  have e : idx_main_v12 (ix1 k) d = ix2 k d := eq_ix2 _
  rw [e, val_main_v11_apply, hc k d, EReal.coe_mul]
  rfl

/-- Minus the squared distance of a row from a code. -/
theorem v16_eq (hx : IsBatch x0 X) (hc : IsFirst x1 C) (b : Fin 16) (t : Fin 1024) (k : Fin 8192) :
    val_main_v16 (F := Ideal) x0 x1 (ix3 b t k) = ((score C (X b t) k - ∑ d, X b t d * X b t d : ℝ) : EReal) := by
  have e5 : idx_main_v5 (idx_main_v9 (ix3 b t k)) = ix2 b t := eq_ix2 _
  have e13 : idx_main_v13 (idx_main_v14 (ix3 b t k)) = ix1 k := eq_ix1 _
  have e2 : val_main_v7 (F := Ideal) (ix3 b t k) = ((2 : ℝ) : EReal) := (val_main_v7_apply _).trans ofBits_two
  rw [val_main_v16_apply, val_main_v15_apply, val_main_v10_apply, val_main_v9_apply, val_main_v5_apply, e5, v4_eq hx, val_main_v8_apply,
    e2, v6_eq hx hc, val_main_v14_apply, val_main_v13_apply, e13, v12_eq hc, ← neg_dist]
  generalize (∑ d, X b t d * X b t d) = n
  generalize (∑ d, X b t d * C k d) = p
  generalize (∑ d, C k d * C k d) = q
  show -(((n : ℝ) : EReal) - ((2 : ℝ) : EReal) * ((p : ℝ) : EReal) + ((q : ℝ) : EReal)) = _
  rw [← EReal.coe_mul, ← EReal.coe_sub, ← EReal.coe_add, ← EReal.coe_neg]

theorem reduces_codes_axis : S16x1024x8192.Reduces [2] S16x1024 := by decide

/-- The greatest of a row's is some real number. -/
theorem v19_eq (hx : IsBatch x0 X) (hc : IsFirst x1 C) (b : Fin 16) (t : Fin 1024) :
    ∃ M : ℝ, val_main_v19 (F := Ideal) x0 x1 (ix2 b t) = (M : EReal) := by
  have e18 : val_main_v18 (F := Ideal) (ix2 b t) = (⊥ : EReal) := (val_main_v18_apply _).trans ofBits_bot
  have h17 : ∃ M : ℝ, val_main_v17 (F := Ideal) x0 x1 (ix2 b t) = (M : EReal) := by
    unfold val_main_v17
    have e := Host.reduce_eq_fold (FloatOps.maximumf (F := Ideal) (φ := .f32)) (val_main_v16 (F := Ideal) x0 x1) (val_main_cst_3 (F := Ideal))
      reducesTo_S16x1024x8192_S16x1024_d2 h_S_ (ix2 b t)
    have eb : val_main_cst_3 (F := Ideal) (Shape.Idx.first h_S_) = (⊥ : EReal) := ofBits_bot
    rw [e, eb]
    refine fold_max_coe _ ⟨reduces_codes_axis.lift (ix2 b t) (0 : Fin 8192), Finset.mem_filter.2 ⟨Finset.mem_univ _, ?_⟩⟩ _ fun i => ⟨_, (congrArg _ (eq_ix3 i)).trans (v16_eq hx hc (i 0) (i 1) (i 2))⟩
    exact (congrFun (Shape.ReducesTo.drop_eq_drop reducesTo_S16x1024x8192_S16x1024_d2 reduces_codes_axis) _).trans (reduces_codes_axis.drop_lift _ _)
  obtain ⟨M, hM⟩ := h17
  refine ⟨M, ?_⟩
  rw [val_main_v19_apply, e18, hM]
  exact max_eq_right bot_le

/-- The first round's softmax weights. -/
theorem v27_eq (hx : IsBatch x0 X) (hc : IsFirst x1 C) (b : Fin 16) (t : Fin 1024) (k : Fin 8192) :
    val_main_v27 (F := Ideal) x0 x1 (ix3 b t k) = ((prob C (X b t) k : ℝ) : EReal) := by
  obtain ⟨M, hM⟩ := v19_eq hx hc b t
  have h23 : ∀ j : Fin 8192, val_main_v23 (F := Ideal) x0 x1 (ix3 b t j) = ((Real.exp (score C (X b t) j - (∑ d, X b t d * X b t d + M)) : ℝ) : EReal) := by
    intro j
    have e20 : idx_main_v20 (idx_main_v21 (ix3 b t j)) = ix2 b t := eq_ix2 _
    rw [val_main_v23_apply, val_main_v22_apply, v16_eq hx hc, val_main_v21_apply, val_main_v20_apply, e20, hM, ← sub_sub, ← exp_coe, ← sub_coe]
    rfl
  have h24 : val_main_v24 (F := Ideal) x0 x1 (ix2 b t) = ((∑ j, Real.exp (score C (X b t) j - (∑ d, X b t d * X b t d + M)) : ℝ) : EReal) := by
    rw [val_main_v24_apply]
    have hz : val_main_cst_5 (F := Ideal) (Shape.Idx.first h_S_) = ((0 : ℝ) : EReal) := ofBits_zero
    rw [hz, EReal.coe_zero, zero_add, ← coe_sum]
    refine Finset.sum_congr rfl fun j _ => ?_
    have e : idx_main_v24 (ix2 b t) j = ix3 b t j := eq_ix3 _
    rw [e, h23 j]
  have e25 : idx_main_v25 (idx_main_v26 (ix3 b t k)) = ix2 b t := eq_ix2 _
  rw [val_main_v27_apply, h23, val_main_v26_apply, val_main_v25_apply, e25, h24, ← exp_sub_div C (X b t) (∑ d, X b t d * X b t d + M) k]
  exact div_coe _ _ (sum_exp_pos _).ne'

/-- The first round's soft quantization. -/
theorem v28_eq (hx : IsBatch x0 X) (hc : IsFirst x1 C) (b : Fin 16) (t : Fin 1024) (d : Fin 32) :
    val_main_v28 (F := Ideal) x0 x1 (ix3 b t d) = ((quant C (X b t) d : ℝ) : EReal) := by
  rw [val_main_v28_apply, quant, ← coe_sum]
  refine Finset.sum_congr rfl fun k _ => ?_
  have e : lidx_main_v28 (ix3 b t d) k = ix3 b t k := eq_ix3 _
  have e' : ridx_main_v28 (ix3 b t d) k = ix2 k d := eq_ix2 _
  rw [e, e', v27_eq hx hc, hc k d, EReal.coe_mul]

/-- What the first round leaves of a row. -/
theorem v41_isBatch (hx : IsBatch x0 X) (hc : IsFirst x1 C) : IsBatch (val_main_v41 (F := Ideal) x0 x1) fun b t => resid C (X b t) := by
  intro b t d
  rw [val_main_v41_apply, hx b t d, v28_eq hx hc]
  exact sub_coe _ _

/-- The square of the distance of the quantization, at an entry. -/
theorem v30_eq (hx : IsBatch x0 X) (hc : IsFirst x1 C) (b : Fin 16) (t : Fin 1024) (d : Fin 32) :
    val_main_v30 (F := Ideal) x0 x1 (ix3 b t d) = ((resid C (X b t) d * resid C (X b t) d : ℝ) : EReal) := by
  rw [val_main_v30_apply, val_main_v29_apply, hx b t d, v28_eq hx hc]
  show (((quant C (X b t) d : ℝ) : EReal) - ((X b t d : ℝ) : EReal)) * (((quant C (X b t) d : ℝ) : EReal) - ((X b t d : ℝ) : EReal)) = _
  rw [sub_coe, ← EReal.coe_mul]
  exact congrArg _ (by unfold resid; ring)

/-- The sum of the squares, over the batch. -/
theorem v31_eq (hx : IsBatch x0 X) (hc : IsFirst x1 C) (i : S_.Idx) : val_main_v31 (F := Ideal) x0 x1 i = ((residSq C X : ℝ) : EReal) := by
  rw [val_main_v31_apply]
  have hz : val_main_cst_6 (F := Ideal) (Shape.Idx.first h_S_) = ((0 : ℝ) : EReal) := ofBits_zero
  rw [hz, EReal.coe_zero, zero_add]
  refine (sum_idx3 _).trans ?_
  simp only [residSq, ← coe_sum]
  exact Finset.sum_congr rfl fun b _ => Finset.sum_congr rfl fun t _ => Finset.sum_congr rfl fun d _ => v30_eq hx hc b t d

/-- The first round's loss: the mean square, with a quarter of itself. -/
theorem v38_eq (hx : IsBatch x0 X) (hc : IsFirst x1 C) (i : S_.Idx) :
    val_main_v38 (F := Ideal) x0 x1 i = ((residSq C X / 524288 + 1 / 4 * (residSq C X / 524288) : ℝ) : EReal) := by
  have e35 : val_main_v35 (F := Ideal) x0 x1 i = ((residSq C X : ℝ) : EReal) := v31_eq hx hc i
  rw [val_main_v38_apply, val_main_v32_apply, val_main_v37_apply, val_main_v36_apply, v31_eq hx hc, e35]
  show Ideal.div _ (Ideal.ofBits .f32 0x49000000#32) + Ideal.ofBits .f32 0x3E800000#32 * Ideal.div _ (Ideal.ofBits .f32 0x49000000#32) = _
  rw [ofBits_count, ofBits_quarter, div_coe _ _ (by norm_num), EReal.coe_add, EReal.coe_mul]

end Cert.Vq.Ref

end
-- ==== Proof.Vq.Reference.lean ====
/- The reference's three results as real numbers: its second round is its first on what the first left, over the other codebook. -/
module

public import proofs.«01_k».proof.Proof.Vq.Round

@[expose] public section

noncomputable section

namespace Cert.Vq.Ref

open Cert.ReferenceIdeal Cert.ReferenceIdeal.Gen Cert.ReferenceIdeal.Read Idealize.ShloMosaic.ValueIdx
open Idealize.ShloMosaic hiding ix1 ix2 ix3 ix4 eq_ix1 eq_ix2 eq_ix3 eq_ix4
open scoped BigOperators

/-- The two codebooks, exchanged. -/
def swap (x1 : FVec Ideal S2x8192x32 .f32) : FVec Ideal S2x8192x32 .f32 := fun i => x1 (ix3 (n0 := 2) (n1 := 8192) (n2 := 32) (Fin.rev (i 0)) (i 1) (i 2))

/-- The first of the exchanged codebooks is the second. -/
theorem v2_swap (x1 : FVec Ideal S2x8192x32 .f32) : val_main_v2 (F := Ideal) (swap x1) = val_main_v43 (F := Ideal) x1 := by
  funext i
  rw [val_main_v2_apply, val_main_v1_apply, val_main_v43_apply, val_main_v42_apply]
  refine congrArg x1 (funext fun a => Fin.ext ?_)
  match a with
  | ⟨0, _⟩ => rfl
  | ⟨1, _⟩ => rfl
  | ⟨2, _⟩ => rfl

variable {x0 : FVec Ideal S16x1024x32 .f32} {x1 : FVec Ideal S2x8192x32 .f32} {X : Batch} {B : Fin 2 → Codes}

/-- An array holds the two codebooks `B`. -/
def IsBooks (x1 : FVec Ideal S2x8192x32 .f32) (B : Fin 2 → Codes) : Prop := ∀ r k d, x1 (ix3 r k d) = ((B r k d : ℝ) : EReal)

/-- The first codebook as the reference takes it. -/
theorem isFirst (h : IsBooks x1 B) : IsFirst x1 (B 0) := by
  intro k d
  have e : idx_main_v1 (idx_main_v2 (ix2 k d)) = ix3 0 k d := funext fun a => Fin.ext (by
    match a with
    | ⟨0, _⟩ => rfl
    | ⟨1, _⟩ => show (k.val * 32 + d.val) / 32 % 8192 = k.val; omega
    | ⟨2, _⟩ => show (k.val * 32 + d.val) % 32 = d.val; omega)
  rw [val_main_v2_apply, val_main_v1_apply, e, h 0 k d]

/-- The second codebook as the reference takes it. -/
theorem isFirst_swap (h : IsBooks x1 B) : IsFirst (swap x1) (B 1) :=
  isFirst (B := fun r => B (Fin.rev r)) fun r k d => h (Fin.rev r) k d

/-- The second round's softmax weights are a first round's. -/
theorem v68_eq (x0 : FVec Ideal S16x1024x32 .f32) (x1 : FVec Ideal S2x8192x32 .f32) :
    val_main_v68 (F := Ideal) x0 x1 = val_main_v27 (F := Ideal) (val_main_v41 (F := Ideal) x0 x1) (swap x1) := by
  have e14 : val_main_v14 (F := Ideal) (swap x1) = val_main_v55 (F := Ideal) x1 := by
    unfold val_main_v14 val_main_v13 val_main_v12 val_main_v11
    rw [v2_swap]; rfl
  have e16 : val_main_v16 (F := Ideal) (val_main_v41 (F := Ideal) x0 x1) (swap x1) = val_main_v57 (F := Ideal) x0 x1 := by
    unfold val_main_v16 val_main_v15 val_main_v10 val_main_v8 val_main_v6
    rw [v2_swap, e14]; rfl
  unfold val_main_v27 val_main_v26 val_main_v25 val_main_v24 val_main_v23 val_main_v22 val_main_v21 val_main_v20 val_main_v19 val_main_v17
  rw [e16]; rfl

/-- The second round's soft quantization is a first round's. -/
theorem v69_eq (x0 : FVec Ideal S16x1024x32 .f32) (x1 : FVec Ideal S2x8192x32 .f32) :
    val_main_v69 (F := Ideal) x0 x1 = val_main_v28 (F := Ideal) (val_main_v41 (F := Ideal) x0 x1) (swap x1) := by
  unfold val_main_v28
  rw [v2_swap, ← v68_eq]; rfl

/-- The second round's loss is a first round's. -/
theorem v79_eq (x0 : FVec Ideal S16x1024x32 .f32) (x1 : FVec Ideal S2x8192x32 .f32) :
    val_main_v79 (F := Ideal) x0 x1 = val_main_v38 (F := Ideal) (val_main_v41 (F := Ideal) x0 x1) (swap x1) := by
  unfold val_main_v38 val_main_v37 val_main_v36 val_main_v35 val_main_v34 val_main_v33 val_main_v32 val_main_v31 val_main_v30 val_main_v29
  rw [← v69_eq]; rfl

/-- The reference's quantized rows. -/
theorem ref_recon (hx : IsBatch x0 X) (hB : IsBooks x1 B) (b : Fin 16) (t : Fin 1024) (d : Fin 32) :
    val_main_v81 (F := Ideal) x0 x1 (ix3 b t d) = ((recon B (X b t) d : ℝ) : EReal) := by
  have h0 : val_main_v0 (F := Ideal) (ix3 b t d) = ((0 : ℝ) : EReal) := (val_main_v0_apply _).trans ofBits_zero
  rw [val_main_v81_apply, val_main_v40_apply, h0, v28_eq hx (isFirst hB), v69_eq, v28_eq (v41_isBatch hx (isFirst hB)) (isFirst_swap hB)]
  show ((0 : ℝ) : EReal) + ((quant (B 0) (X b t) d : ℝ) : EReal) + ((quant (B 1) (resid (B 0) (X b t)) d : ℝ) : EReal) = _
  rw [← EReal.coe_add, ← EReal.coe_add, zero_add]
  rfl

/-- The reference's loss. -/
theorem ref_loss (hx : IsBatch x0 X) (hB : IsBooks x1 B) (i : S_.Idx) :
    val_main_v80 (F := Ideal) x0 x1 i = (((∑ b, ∑ t, rowLoss B (X b t)) * (5 / 4 / 524288) : ℝ) : EReal) := by
  have h0 : val_main_cst_11 (F := Ideal) i = ((0 : ℝ) : EReal) := ofBits_zero
  rw [val_main_v80_apply, val_main_v39_apply, h0, v38_eq hx (isFirst hB), v79_eq, v38_eq (v41_isBatch hx (isFirst hB)) (isFirst_swap hB),
    sum_rowLoss, ← loss_scale, EReal.coe_add, EReal.coe_add]
  rfl

/-- The reference's probabilities. -/
theorem ref_probs (hx : IsBatch x0 X) (hB : IsBooks x1 B) (b : Fin 16) (t : Fin 1024) (k : Fin 8192) (r : Fin 2) :
    val_main_v85 (F := Ideal) x0 x1 (ix4 b t k r) = ((roundProb B r (X b t) k : ℝ) : EReal) := by
  unfold val_main_v85
  match r with
  | ⟨0, _⟩ =>
    refine (concatenate_pair_apply_left (t := S16x1024x8192x2) (s₁ := S16x1024x8192x1) (s₂ := S16x1024x8192x1) 3 (val_main_v83 (F := Ideal) x0 x1)
      (val_main_v84 (F := Ideal) x0 x1) concatenates_S16x1024x8192x1_S16x1024x8192x1_S16x1024x8192x2_d3 _ rfl (ix4 b t k u0) (fun x => match x with
        | ⟨0, _⟩ => rfl
        | ⟨1, _⟩ => rfl
        | ⟨2, _⟩ => rfl
        | ⟨3, _⟩ => rfl)).trans ?_
    have e : idx_main_v83 (ix4 b t k u0) = ix3 b t k := eq_ix3 _
    rw [val_main_v83_apply, e]
    exact v27_eq hx (isFirst hB) b t k
  | ⟨1, _⟩ =>
    refine (concatenate_pair_apply_right (t := S16x1024x8192x2) (s₁ := S16x1024x8192x1) (s₂ := S16x1024x8192x1) 3 (val_main_v83 (F := Ideal) x0 x1)
      (val_main_v84 (F := Ideal) x0 x1) concatenates_S16x1024x8192x1_S16x1024x8192x1_S16x1024x8192x2_d3 _ rfl rfl (ix4 b t k u0) (fun x hx => match x, hx with
        | ⟨0, _⟩, _ => rfl
        | ⟨1, _⟩, _ => rfl
        | ⟨2, _⟩, _ => rfl
        | ⟨3, _⟩, hx => absurd rfl hx) rfl).trans ?_
    have e : idx_main_v84 (ix4 b t k u0) = ix3 b t k := eq_ix3 _
    rw [val_main_v84_apply, e, v68_eq]
    exact v27_eq (v41_isBatch hx (isFirst hB)) (isFirst_swap hB) b t k

end Cert.Vq.Ref

end
-- ==== Proof.Vq.Results.lean ====
/- The kernel's three results as real numbers, and that each is the reference's. -/
module

public import proofs.«01_k».proof.Proof.Gen.KernelIdeal.Read
public import proofs.«01_k».proof.Proof.Vq.Arrays
public import proofs.«01_k».proof.Proof.Vq.Reference

@[expose] public section

noncomputable section

namespace Cert.Vq

open Cert.KernelIdeal Cert.KernelIdeal.Gen Idealize.ShloMosaic.TcCoe Idealize.ShloMosaic.ValueIdx
open Idealize.ShloMosaic hiding ix1 ix2 ix3 ix4 ix5 eq_ix1 eq_ix2 eq_ix3 eq_ix4
open scoped BigOperators

variable {m : (ℓ : Loc nD τ sig) → Buf (Elt Ideal) ℓ} {c : Dev nD}
variable {A : Fin 16 → Fin 1024 → Fin 32 → ℝ} {B : Fin 2 → Codes}

/-- A batch's row, among the flattened ones. -/
theorem flat_row (A : Fin 16 → Fin 1024 → Fin 32 → ℝ) (b : Fin 16) (t : Fin 1024) (n : Fin 16384) (h : n.val = b.val * 1024 + t.val) :
    flat A n = A b t := by
  unfold flat
  have h1 : (⟨n.val / 1024, by omega⟩ : Fin 16) = b := Fin.ext (by show n.val / 1024 = b.val; omega)
  have h2 : (⟨n.val % 1024, by omega⟩ : Fin 1024) = t := Fin.ext (by show n.val % 1024 = t.val; omega)
  rw [h1, h2]

/-- The kernel's quantized rows. -/
theorem kernel_recon (hX : HasRows m c (flat A)) (hB : HasCodes m c B) (b : Fin 16) (t : Fin 1024) (d : Fin 32) :
    Read.val_main_v61 (F := Ideal) (Value.reg_main_v57_1 m c) (ix3 b t d) = ((recon B (A b t) d : ℝ) : EReal) := by
  rw [Read.val_main_v61_apply]
  have e : Read.idx_main_v61 (ix3 b t d) = ix2 (⟨b.val * 1024 + t.val, by omega⟩ : Fin 16384) d := funext fun a => Fin.ext (by
    match a with
    | ⟨0, _⟩ => show ((b.val * 1024 + t.val) * 32 + d.val) / 32 = b.val * 1024 + t.val; omega
    | ⟨1, _⟩ => show ((b.val * 1024 + t.val) * 32 + d.val) % 32 = d.val; omega)
  rw [e, ← flat_row A b t ⟨b.val * 1024 + t.val, by omega⟩ rfl]
  exact congrFun (reg_recon hX hB) (ix2 _ d)

/-- The kernel's probabilities. -/
theorem kernel_probs (hX : HasRows m c (flat A)) (hB : HasCodes m c B) (b : Fin 16) (t : Fin 1024) (k : Fin 8192) (r : Fin 2) :
    Read.val_main_v60 (F := Ideal) (Value.reg_main_v57_0 m c) (ix4 b t k r) = ((roundProb B r (A b t) k : ℝ) : EReal) := by
  rw [Read.val_main_v60_apply, Read.val_main_v59_apply, Read.val_main_v58_apply]
  have e60 : Read.idx_main_v59 (Read.idx_main_v60 (ix4 b t k r)) = ix5 b t (⟨k.val / 128, by omega⟩ : Fin 64) r (⟨k.val % 128, by omega⟩ : Fin 128) :=
    funext fun a => Fin.ext (by
      match a with
      | ⟨0, _⟩ => show (((b.val * 1024 + t.val) * 8192 + k.val) * 2 + r.val) / 16777216 = b.val; omega
      | ⟨1, _⟩ => show (((b.val * 1024 + t.val) * 8192 + k.val) * 2 + r.val) / 16384 % 1024 = t.val; omega
      | ⟨2, _⟩ => show (((b.val * 1024 + t.val) * 8192 + k.val) * 2 + r.val) / 256 % 64 = k.val / 128; omega
      | ⟨3, _⟩ => show (((b.val * 1024 + t.val) * 8192 + k.val) * 2 + r.val) % 2 = r.val; omega
      | ⟨4, _⟩ => show (((b.val * 1024 + t.val) * 8192 + k.val) * 2 + r.val) / 2 % 128 = k.val % 128; omega)
  have e58 : Read.idx_main_v58 (ix5 b t (⟨k.val / 128, by omega⟩ : Fin 64) r (⟨k.val % 128, by omega⟩ : Fin 128))
      = ix3 (⟨b.val * 1024 + t.val, by omega⟩ : Fin 16384) (⟨k.val / 128 * 2 + r.val, by omega⟩ : Fin 128) (⟨k.val % 128, by omega⟩ : Fin 128) :=
    funext fun a => Fin.ext (by
      match a with
      | ⟨0, _⟩ => show ((((b.val * 1024 + t.val) * 64 + k.val / 128) * 2 + r.val) * 128 + k.val % 128) / 16384 = b.val * 1024 + t.val; omega
      | ⟨1, _⟩ => show ((((b.val * 1024 + t.val) * 64 + k.val / 128) * 2 + r.val) * 128 + k.val % 128) / 128 % 128 = k.val / 128 * 2 + r.val; omega
      | ⟨2, _⟩ => show ((((b.val * 1024 + t.val) * 64 + k.val / 128) * 2 + r.val) * 128 + k.val % 128) % 128 = k.val % 128; omega)
  rw [e60, e58, ← flat_row A b t ⟨b.val * 1024 + t.val, by omega⟩ rfl]
  have h : (k.val / 128 * 2 + r.val) * 128 + k.val % 128 = (tableCol r k).val := by
    unfold tableCol
    exact (Fin.val_mk _).symm
  exact reg_probs hX hB ⟨b.val * 1024 + t.val, by omega⟩ ⟨k.val / 128 * 2 + r.val, by omega⟩ ⟨k.val % 128, by omega⟩ r k h

/-- The blocks' losses add up to the loss of all the rows. -/
theorem sum_parts (v : FVec Ideal S128x1x1 .f32) (A : Fin 16 → Fin 1024 → Fin 32 → ℝ)
    (hv : ∀ s : Fin 128, v (ix3 s 0 0) = ((∑ p, rowLoss B (flat A (rowOf s p)) : ℝ) : EReal)) :
    ∑ i, v i = ((∑ b, ∑ t, rowLoss B (A b t) : ℝ) : EReal) := by
  have hs : ∑ n : Fin 128, ∑ p, rowLoss B (flat A (rowOf n p)) = ∑ b, ∑ t, rowLoss B (A b t) := by
    refine (sum_blocks fun n => rowLoss B (flat A n)).trans ?_
    exact Finset.sum_congr rfl fun b _ => Finset.sum_congr rfl fun t _ => congrArg (rowLoss B) (flat_row A b t _ rfl)
  rw [← hs, ← coe_sum]
  refine (sum_idx3 _).trans (Finset.sum_congr rfl fun s _ => ?_)
  rw [Fin.sum_univ_one, Fin.sum_univ_one]
  exact hv s

/-- The kernel's loss. -/
theorem kernel_loss (hX : HasRows m c (flat A)) (hB : HasCodes m c B) (i : S_.Idx) :
    Read.val_main_v63 (F := Ideal) (Value.reg_main_v57_2 m c) i = (((∑ b, ∑ t, rowLoss B (A b t)) * (5 / 4 / 524288) : ℝ) : EReal) := by
  have e62 : Read.val_main_v62 (F := Ideal) (Value.reg_main_v57_2 m c) i = ((∑ b, ∑ t, rowLoss B (A b t) : ℝ) : EReal) := by
    rw [Read.val_main_v62_apply]
    have hz : Read.val_main_cst_10 (F := Ideal) (Shape.Idx.first h_S_) = ((0 : ℝ) : EReal) := ofBits_zero
    rw [hz, EReal.coe_zero, zero_add]
    exact sum_parts (Value.reg_main_v57_2 m c) _ fun s => congrFun (reg_loss hX hB) (ix3 s 0 0)
  rw [Read.val_main_v63_apply, e62, EReal.coe_mul, ← ofBits_scale]
  rfl

/-! ### The three results are the reference's -/

section Equal

variable (hx : ∀ b t d, m ((c : Thread nD τ).loc main_arg0) (ix3 b t d) = ((A b t d : ℝ) : EReal)) (hB : HasCodes m c B)
include hx hB

/-- The quantized rows are the reference's. -/
theorem recon_equal : Read.val_main_v61 (F := Ideal) (Value.reg_main_v57_1 m c)
    = Cert.ReferenceIdeal.Read.val_main_v81 (F := Ideal) (m ((c : Thread nD τ).loc main_arg0)) (m ((c : Thread nD τ).loc main_arg1)) := by
  funext i
  rw [eq_ix3 i]
  exact (kernel_recon (hasRows hx) hB (i 0) (i 1) (i 2)).trans (Ref.ref_recon hx hB (i 0) (i 1) (i 2)).symm

/-- The probabilities are the reference's. -/
theorem probs_equal : Read.val_main_v60 (F := Ideal) (Value.reg_main_v57_0 m c)
    = Cert.ReferenceIdeal.Read.val_main_v85 (F := Ideal) (m ((c : Thread nD τ).loc main_arg0)) (m ((c : Thread nD τ).loc main_arg1)) := by
  funext i
  rw [eq_ix4 i]
  exact (kernel_probs (hasRows hx) hB (i 0) (i 1) (i 2) (i 3)).trans (Ref.ref_probs hx hB (i 0) (i 1) (i 2) (i 3)).symm

/-- The loss is the reference's. -/
theorem loss_equal : Read.val_main_v63 (F := Ideal) (Value.reg_main_v57_2 m c)
    = Cert.ReferenceIdeal.Read.val_main_v80 (F := Ideal) (m ((c : Thread nD τ).loc main_arg0)) (m ((c : Thread nD τ).loc main_arg1)) := by
  funext i
  exact (kernel_loss (hasRows hx) hB i).trans (Ref.ref_loss hx hB i).symm

end Equal

end Cert.Vq

end
-- ==== Proof.Vq.Final.lean ====
/- The claim's conjuncts about the reference's run and about the two programs' results. -/
module

public import proofs.«01_k».proof.Defs
public import proofs.«01_k».proof.Proof.Gen.ReferenceIdeal.Run
public import proofs.«01_k».proof.Proof.Gen.Pre_finite
public import proofs.«01_k».proof.Proof.Vq.Finite
public import proofs.«01_k».proof.Proof.Vq.Results
public import Idealize.ShloMosaic.Lib.Claim

@[expose] public section

noncomputable section

namespace Cert.Vq

open Idealize.ShloMosaic.TcCoe Idealize.ShloMosaic.ValueIdx
open Idealize.ShloMosaic hiding ix1 ix2 ix3 ix4 ix5 eq_ix1 eq_ix2 eq_ix3 eq_ix4

/-- On finite arguments the kernel's three results, read at the memory, are the reference's. -/
theorem results_equal {m : (ℓ : Loc Cert.KernelIdeal.nD Cert.KernelIdeal.τ Cert.KernelIdeal.sig) → Buf (Elt Ideal) ℓ}
    (h : Cert.Pre_KernelIdeal_finite (hPre_finite := Cert.Pre_finite.Gen.facts) m)
    (c : Dev Cert.KernelIdeal.nD) :
    Cert.KernelIdeal.Read.val_main_v61 (F := Ideal) (Cert.KernelIdeal.Value.reg_main_v57_1 m c)
        = Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ Cert.KernelIdeal.Read.val_main_v60 (F := Ideal) (Cert.KernelIdeal.Value.reg_main_v57_0 m c)
        = Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      ∧ Cert.KernelIdeal.Read.val_main_v63 (F := Ideal) (Cert.KernelIdeal.Value.reg_main_v57_2 m c)
        = Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
  obtain ⟨h0, h1⟩ := real_of_finite _ _ (h c)
  choose f hf using h0
  choose g hg using h1
  have hx := fun b t d => hf (ix3 b t d)
  have hB : HasCodes m c (fun r k d => g (ix3 r k d)) := fun r k d => hg (ix3 r k d)
  exact ⟨recon_equal (A := fun b t d => f (ix3 b t d)) hx hB, probs_equal (A := fun b t d => f (ix3 b t d)) hx hB,
    loss_equal (A := fun b t d => f (ix3 b t d)) hx hB⟩

/-- The kernel and the reference end with equal results on finite arguments. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  refine ⟨fun c => Cert.ReferenceIdeal.Read.val_main_v81 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v85 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun c => Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)), ?_, ?_⟩
  · refine (θ_run _ _ _).mono (fun r h c => ?_) (Cert.KernelIdeal.Value.run m g)
    obtain ⟨e0, e1, e2⟩ := results_equal hpre c
    obtain ⟨k0, k1, k2, a0, a1⟩ := h c
    exact ⟨k0.trans e0, k1.trans e1, k2.trans e2, a0, a1⟩
  · refine (θ_run _ _ _).mono (fun r h c => ?_) (Cert.ReferenceIdeal.Value.run m' g')
    obtain ⟨k0, k1, k2, a0, a1⟩ := h c
    obtain ⟨x0, x1⟩ := hagree c
    exact ⟨(k0.trans (Cert.ReferenceIdeal.Read.val_main_v81_eq (StableHlo.launchContents m' c))).trans
        (congrArg₂ (Cert.ReferenceIdeal.Read.val_main_v81 (F := Ideal)) x0 x1),
      (k1.trans (Cert.ReferenceIdeal.Read.val_main_v85_eq (StableHlo.launchContents m' c))).trans
        (congrArg₂ (Cert.ReferenceIdeal.Read.val_main_v85 (F := Ideal)) x0 x1),
      (k2.trans (Cert.ReferenceIdeal.Read.val_main_v80_eq (StableHlo.launchContents m' c))).trans
        (congrArg₂ (Cert.ReferenceIdeal.Read.val_main_v80 (F := Ideal)) x0 x1), a0, a1⟩

/-- The reference's run ends with its arguments unchanged and nothing in flight. -/
theorem reference_quiescent : Cert.quiescent_ReferenceIdeal (hReferenceIdeal := Cert.ReferenceIdeal.Gen.facts) := by
  intro m g _
  refine (θ_run _ _ _).mono (fun r h => ?_) (Cert.ReferenceIdeal.Value.run m g)
  refine ⟨fun c => ⟨(h c).2.2.2.1, (h c).2.2.2.2⟩, ?_⟩
  funext s
  obtain ⟨t, s⟩ := s
  match s with
  | .reg s => exact absurd s.isLt (Nat.not_lt_zero _)
  | .dma s => exact absurd s.isLt (Nat.not_lt_zero _)

end Cert.Vq

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Run
public import proofs.«01_k».proof.Proof.Gen.KernelIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Vq.Final
public import Idealize.ShloMosaic.Adequacy
public import Idealize.ShloMosaic.Init

@[expose] public section

noncomputable section

namespace Cert.Proof

/-- All the claims: the runs of the kernel, of its idealization and of the reference leave the arguments as they were and
    nothing in flight, and on finite arguments the idealized kernel's three results are the reference's. -/
theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    Cert.Vq.reference_quiescent,
    fun m ρ _ => Cert.Vq.reference_quiescent m ρ trivial,
    trivial,
    Cert.Vq.algebraic⟩

end Cert.Proof

end
